-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6_9) = v0 c
          ∧ r.2.mem ((c.tc : Thread Cert.ReferenceIdeal.nD Cert.ReferenceIdeal.τ).loc Cert.ReferenceIdeal.main_v6_10) = v1 c
          ∧ r.2.mem ((c.tc : Thread Cert.ReferenceIdeal.nD Cert.ReferenceIdeal.τ).loc Cert.ReferenceIdeal.main_v6_4) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ preserves_Kernel_KernelIdeal
    ∧ algebraic_KernelIdeal_ReferenceIdeal_pre_finite_args (hKernelIdeal := hKernelIdeal) (hReferenceIdeal := hReferenceIdeal) (hPre_finite_args := hPre_finite_args)
-- ==== Pre_finite_args.lean ====
abbrev S2048x128 : Shape := ⟨2, ![2048, 128]⟩
abbrev S_ : Shape := ⟨0, ![]⟩

class Facts : Prop where
  bcast_S_S2048x128 : S_.BroadcastsInDim S2048x128 (![] : Fin 0 → Fin S2048x128.rank)

variable [Facts]

def fn {F : FTy → Type} [FloatOps F] (main_arg0 : FVec F S2048x128 .f32) (main_arg1 : FVec F S2048x128 .f32) (main_arg2 : FVec F S2048x128 .f32) : IVec S2048x128 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_v3 : FVec F S2048x128 .f32 := Host.absf main_arg1
  let main_cst_0 : FVec F S_ .f32 := constant S_ .f32 0x7F800000#32
  let main_v4 : FVec F S2048x128 .f32 := broadcastInDim S2048x128 ![] bcast_S_S2048x128 main_cst_0
  let main_v5 : IVec S2048x128 1 := cmpf .olt main_v3 main_v4
  let main_v6 : IVec S2048x128 1 := andi main_v2 main_v5
  let main_v7 : FVec F S2048x128 .f32 := Host.absf main_arg2
  let main_cst_1 : FVec F S_ .f32 := constant S_ .f32 0x7F800000#32
  let main_v8 : FVec F S2048x128 .f32 := broadcastInDim S2048x128 ![] bcast_S_S2048x128 main_cst_1
  let main_v9 : IVec S2048x128 1 := cmpf .olt main_v7 main_v8
  let main_v10 : IVec S2048x128 1 := andi main_v6 main_v9
  main_v10
-- ==== Kernel.lean ====
abbrev S2048x128 : Shape := ⟨2, ![2048, 128]⟩
abbrev S16x1x128 : Shape := ⟨3, ![16, 1, 128]⟩
abbrev S128x128 : Shape := ⟨2, ![128, 128]⟩
abbrev S1x128 : Shape := ⟨2, ![1, 128]⟩
abbrev S1x1 : Shape := ⟨2, ![1, 1]⟩
abbrev S128x1 : Shape := ⟨2, ![128, 1]⟩
abbrev S1x1x128 : Shape := ⟨3, ![1, 1, 128]⟩
abbrev S1 : Shape := ⟨1, ![1]⟩
abbrev S1x1x1 : Shape := ⟨3, ![1, 1, 1]⟩
abbrev S1x128x128 : Shape := ⟨3, ![1, 128, 128]⟩
abbrev S2048 : Shape := ⟨1, ![2048]⟩
abbrev S_ : Shape := ⟨0, ![]⟩

abbrev nBuf : Space → Nat
  | .hbm => 11
  | .vmem => 6
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S16x1x128, .f32⟩
  | .hbm, ⟨4, _⟩ => ⟨S16x1x128, .f32⟩
  | .hbm, ⟨5, _⟩ => ⟨S128x128, .f32⟩
  | .hbm, ⟨6, _⟩ => ⟨S2048, .f32⟩
  | .hbm, ⟨7, _⟩ => ⟨S2048, .f32⟩
  | .hbm, ⟨8, _⟩ => ⟨S_, .f32⟩
  | .hbm, ⟨9, _⟩ => ⟨S2048, .f32⟩
  | .hbm, ⟨10, _⟩ => ⟨S2048, .i1⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S16x1x128, .f32⟩
  | .local _ .vmem, ⟨4, _⟩ => ⟨S16x1x128, .f32⟩
  | .local _ .vmem, ⟨5, _⟩ => ⟨S128x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v5 : BitVec 32 := Scalar.addi c0_i32 c16_i32
  let c1_i32 : BitVec 32 := 1#32
  ⟨c0_i32, v5, c1_i32⟩
@[reducible] def k0_t2_loop : Scf.Loop 32 :=
  let c0_i32_7 : BitVec 32 := 0#32
  let c128_i32 : BitVec 32 := 128#32
  let v10 : BitVec 32 := Scalar.addi c0_i32_7 c128_i32
  let c1_i32_8 : BitVec 32 := 1#32
  ⟨c0_i32_7, v10, c1_i32_8⟩
def k0_off1 (k0_t1 : Fin k0_t1_loop.trips) (k0_t2 : Fin k0_t2_loop.trips) : Fin 2 → Nat :=
  let c0_i32 : BitVec 32 := 0#32
  let c1_i32 : BitVec 32 := 1#32
  let arg6 : BitVec 32 := Scf.iv c0_i32 c1_i32 k0_t1
  let c128_i32_14 : BitVec 32 := 128#32
  let v18 : BitVec 32 := Scalar.muli arg6 c128_i32_14
  let c0_i32_7 : BitVec 32 := 0#32
  let c1_i32_8 : BitVec 32 := 1#32
  let arg11 : BitVec 32 := Scf.iv c0_i32_7 c1_i32_8 k0_t2
  let v19 : BitVec 32 := Scalar.addi v18 arg11
  let v24 : Index := Scalar.indexCast v19
  let c0_17 : Index := 0#32
  ![v24.toNat, 0]
def k0_off2 (k0_t1 : Fin k0_t1_loop.trips) : Fin 3 → Nat :=
  let c0_i32 : BitVec 32 := 0#32
  let c1_i32 : BitVec 32 := 1#32
  let arg6 : BitVec 32 := Scf.iv c0_i32 c1_i32 k0_t1
  let v13 : Index := Scalar.indexCast arg6
  let c0_10 : Index := 0#32
  let c0_11 : Index := 0#32
  ![v13.toNat, 0, 0]
abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2048x128 : Shape := ⟨2, ![2048, 128]⟩
abbrev S_ : Shape := ⟨0, ![]⟩
abbrev S128x128 : Shape := ⟨2, ![128, 128]⟩
abbrev S2048 : Shape := ⟨1, ![2048]⟩
abbrev S1x128 : Shape := ⟨2, ![1, 128]⟩
abbrev S128 : Shape := ⟨1, ![128]⟩
abbrev S128x1 : Shape := ⟨2, ![128, 1]⟩
abbrev S1 : Shape := ⟨1, ![1]⟩

abbrev nBuf : Space → Nat
  | .hbm => 225
  | .vmem => 0
  | .smem => 0
  | _ => 0

abbrev hbmTy0_0 (i : Nat) : BufTy := match i % 128 with
  | 0 => ⟨S2048x128, .f32⟩
  | 1 => ⟨S2048x128, .f32⟩
  | 2 => ⟨S2048x128, .f32⟩
  | 3 => ⟨S_, .f32⟩
  | 4 => ⟨S128x128, .f32⟩
  | 5 => ⟨S_, .f32⟩
  | 6 => ⟨S128x128, .f32⟩
  | 7 => ⟨S_, .f32⟩
  | 8 => ⟨S128x128, .f32⟩
  | 9 => ⟨S_, .f32⟩
  | 10 => ⟨S128x128, .f32⟩
  | 11 => ⟨S_, .i32⟩
  | 12 => ⟨S_, .f32⟩
  | 13 => ⟨S2048, .f32⟩
  | 14 => ⟨S_, .i1⟩
  | 15 => ⟨S2048, .i1⟩
  | 16 => ⟨S_, .i32⟩
  | 17 => ⟨S2048x128, .f32⟩
  | 18 => ⟨S2048x128, .f32⟩
  | 19 => ⟨S2048x128, .f32⟩
  | 20 => ⟨S_, .i32⟩
  | 21 => ⟨S128x128, .f32⟩
  | 22 => ⟨S128x128, .f32⟩
  | 23 => ⟨S128x128, .f32⟩
  | 24 => ⟨S128x128, .f32⟩
  | 25 => ⟨S_, .i32⟩
  | 26 => ⟨S2048, .f32⟩
  | 27 => ⟨S2048, .i1⟩
  | 28 => ⟨S_, .i32⟩
  | 29 => ⟨S_, .i1⟩
  | 30 => ⟨S_, .i32⟩
  | 31 => ⟨S1x128, .f32⟩
  | 32 => ⟨S128, .f32⟩
  | 33 => ⟨S_, .i32⟩
  | 34 => ⟨S1x128, .f32⟩
  | 35 => ⟨S128, .f32⟩
  | 36 => ⟨S_, .i32⟩
  | 37 => ⟨S1x128, .f32⟩
  | 38 => ⟨S128, .f32⟩
  | 39 => ⟨S_, .i32⟩
  | 40 => ⟨S_, .i32⟩
  | 41 => ⟨S_, .f32⟩
  | 42 => ⟨S_, .f32⟩
  | 43 => ⟨S_, .f32⟩
  | 44 => ⟨S_, .f32⟩
  | 45 => ⟨S128x128, .f32⟩
  | 46 => ⟨S128x128, .f32⟩
  | 47 => ⟨S128x1, .f32⟩
  | 48 => ⟨S1x128, .f32⟩
  | 49 => ⟨S128x128, .f32⟩
  | 50 => ⟨S128x128, .f32⟩
  | 51 => ⟨S128x128, .f32⟩
  | 52 => ⟨S128x128, .f32⟩
  | 53 => ⟨S128x128, .f32⟩
  | 54 => ⟨S128x128, .f32⟩
  | 55 => ⟨S_, .f32⟩
  | 56 => ⟨S_, .f32⟩
  | 57 => ⟨S_, .f32⟩
  | 58 => ⟨S128x128, .f32⟩
  | 59 => ⟨S128x128, .f32⟩
  | 60 => ⟨S128x1, .f32⟩
  | 61 => ⟨S1x128, .f32⟩
  | 62 => ⟨S128x128, .f32⟩
  | 63 => ⟨S128x128, .f32⟩
  | 64 => ⟨S128x128, .f32⟩
  | 65 => ⟨S128x128, .f32⟩
  | 66 => ⟨S128x128, .f32⟩
  | 67 => ⟨S128x128, .f32⟩
  | 68 => ⟨S_, .f32⟩
  | 69 => ⟨S_, .f32⟩
  | 70 => ⟨S_, .f32⟩
  | 71 => ⟨S128x128, .f32⟩
  | 72 => ⟨S128x128, .f32⟩
  | 73 => ⟨S128x1, .f32⟩
  | 74 => ⟨S1x128, .f32⟩
  | 75 => ⟨S128x128, .f32⟩
  | 76 => ⟨S128x128, .f32⟩
  | 77 => ⟨S128x128, .f32⟩
  | 78 => ⟨S128x128, .f32⟩
  | 79 => ⟨S128x128, .f32⟩
  | 80 => ⟨S128x128, .f32⟩
  | 81 => ⟨S_, .i32⟩
  | 82 => ⟨S_, .i1⟩
  | 83 => ⟨S128x128, .f32⟩
  | 84 => ⟨S128x128, .i32⟩
  | 85 => ⟨S128x128, .i32⟩
  | 86 => ⟨S128x128, .i1⟩
  | 87 => ⟨S_, .f32⟩
  | 88 => ⟨S128x128, .f32⟩
  | 89 => ⟨S128x128, .f32⟩
  | 90 => ⟨S_, .f32⟩
  | 91 => ⟨S_, .f32⟩
  | 92 => ⟨S128, .f32⟩
  | 93 => ⟨S128, .f32⟩
  | 94 => ⟨S_, .f32⟩
  | 95 => ⟨S_, .f32⟩
  | 96 => ⟨S128x128, .f32⟩
  | 97 => ⟨S128x128, .f32⟩
  | 98 => ⟨S128x128, .f32⟩
  | 99 => ⟨S128x128, .i32⟩
  | 100 => ⟨S128x128, .i32⟩
  | 101 => ⟨S128x128, .i1⟩
  | 102 => ⟨S_, .f32⟩
  | 103 => ⟨S128x128, .f32⟩
  | 104 => ⟨S128x128, .f32⟩
  | 105 => ⟨S_, .f32⟩
  | 106 => ⟨S_, .f32⟩
  | 107 => ⟨S128, .f32⟩
  | 108 => ⟨S_, .f32⟩
  | 109 => ⟨S_, .f32⟩
  | 110 => ⟨S128, .f32⟩
  | 111 => ⟨S128, .f32⟩
  | 112 => ⟨S_, .f32⟩
  | 113 => ⟨S_, .f32⟩
  | 114 => ⟨S_, .f32⟩
  | 115 => ⟨S128, .f32⟩
  | 116 => ⟨S128, .f32⟩
  | 117 => ⟨S128, .f32⟩
  | 118 => ⟨S_, .f32⟩
  | 119 => ⟨S_, .f32⟩
  | 120 => ⟨S_, .f32⟩
  | 121 => ⟨S_, .i1⟩
  | 122 => ⟨S_, .i1⟩
  | 123 => ⟨S_, .f32⟩
  | 124 => ⟨S_, .f32⟩
  | 125 => ⟨S_, .f32⟩
  | 126 => ⟨S_, .f32⟩
  | 127 => ⟨S_, .i1⟩
  | _ => ⟨S2048x128, .f32⟩

abbrev hbmTy0_1 (i : Nat) : BufTy := match i % 128 with
  | 0 => ⟨S_, .i1⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .i1⟩
  | 9 => ⟨S_, .i1⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .i1⟩
  | 26 => ⟨S_, .f32⟩
  | 27 => ⟨S_, .f32⟩
  | 28 => ⟨S_, .i1⟩
  | 29 => ⟨S_, .f32⟩
  | 30 => ⟨S_, .f32⟩
  | 31 => ⟨S_, .f32⟩
  | 32 => ⟨S_, .f32⟩
  | 33 => ⟨S_, .f32⟩
  | 34 => ⟨S_, .i1⟩
  | 35 => ⟨S_, .f32⟩
  | 36 => ⟨S_, .i1⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .i1⟩
  | 44 => ⟨S128x1, .f32⟩
  | 45 => ⟨S1x128, .f32⟩
  | 46 => ⟨S128x128, .f32⟩
  | 47 => ⟨S128x128, .f32⟩
  | 48 => ⟨S128x128, .f32⟩
  | 49 => ⟨S128x128, .f32⟩
  | 50 => ⟨S128x128, .f32⟩
  | 51 => ⟨S128x128, .f32⟩
  | 52 => ⟨S128x128, .f32⟩
  | 53 => ⟨S128x128, .f32⟩
  | 54 => ⟨S128x128, .f32⟩
  | 55 => ⟨S128x128, .f32⟩
  | 56 => ⟨S_, .i1⟩
  | 57 => ⟨S128x128, .i32⟩
  | 58 => ⟨S128x128, .i32⟩
  | 59 => ⟨S128x128, .i1⟩
  | 60 => ⟨S_, .f32⟩
  | 61 => ⟨S128x128, .f32⟩
  | 62 => ⟨S128x128, .f32⟩
  | 63 => ⟨S_, .f32⟩
  | 64 => ⟨S_, .f32⟩
  | 65 => ⟨S_, .f32⟩
  | 66 => ⟨S_, .f32⟩
  | 67 => ⟨S128x128, .f32⟩
  | 68 => ⟨S128x128, .i32⟩
  | 69 => ⟨S128x128, .i32⟩
  | 70 => ⟨S128x128, .i1⟩
  | 71 => ⟨S_, .f32⟩
  | 72 => ⟨S128x128, .f32⟩
  | 73 => ⟨S128x128, .f32⟩
  | 74 => ⟨S_, .f32⟩
  | 75 => ⟨S_, .f32⟩
  | 76 => ⟨S_, .f32⟩
  | 77 => ⟨S128x128, .f32⟩
  | 78 => ⟨S128x128, .f32⟩
  | 79 => ⟨S128x128, .f32⟩
  | 80 => ⟨S128x128, .i32⟩
  | 81 => ⟨S128x128, .i32⟩
  | 82 => ⟨S128x128, .i1⟩
  | 83 => ⟨S_, .f32⟩
  | 84 => ⟨S128x128, .f32⟩
  | 85 => ⟨S128x128, .f32⟩
  | 86 => ⟨S_, .f32⟩
  | 87 => ⟨S_, .f32⟩
  | 88 => ⟨S_, .f32⟩
  | 89 => ⟨S_, .f32⟩
  | 90 => ⟨S_, .f32⟩
  | 91 => ⟨S1, .f32⟩
  | 92 => ⟨S2048, .f32⟩
  | 93 => ⟨S1, .i1⟩
  | 94 => ⟨S2048, .i1⟩
  | 95 => ⟨S_, .i32⟩
  | 96 => ⟨S_, .i32⟩
  | _ => ⟨S2048x128, .f32⟩

abbrev hbmTy (i : Nat) : BufTy := match i / 128 with
  | 0 => hbmTy0_0 i
  | 1 => hbmTy0_1 i
  | _ => ⟨S2048x128, .f32⟩

abbrev bufTy : (tb : Table) → Fin (tcTables nBuf tb) → BufTy
  | .hbm, ⟨i, _⟩ => hbmTy i
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_cst_2 : Ref sig .tc := ⟨.hbm, 9, rfl⟩
abbrev main_v3 : Ref sig .tc := ⟨.hbm, 10, rfl⟩
abbrev main_c : Ref sig .tc := ⟨.hbm, 11, rfl⟩
abbrev main_cst_3 : Ref sig .tc := ⟨.hbm, 12, rfl⟩
abbrev main_v4 : Ref sig .tc := ⟨.hbm, 13, rfl⟩
abbrev main_c_4 : Ref sig .tc := ⟨.hbm, 14, rfl⟩
abbrev main_v5 : Ref sig .tc := ⟨.hbm, 15, rfl⟩
abbrev main_c_5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v6_3 : Ref sig .tc := ⟨.hbm, 20, rfl⟩
abbrev main_v6_4 : Ref sig .tc := ⟨.hbm, 21, rfl⟩
abbrev main_v6_5 : Ref sig .tc := ⟨.hbm, 22, rfl⟩
abbrev main_v6_6 : Ref sig .tc := ⟨.hbm, 23, rfl⟩
abbrev main_v6_7 : Ref sig .tc := ⟨.hbm, 24, rfl⟩
abbrev main_v6_8 : Ref sig .tc := ⟨.hbm, 25, rfl⟩
abbrev main_v6_9 : Ref sig .tc := ⟨.hbm, 26, rfl⟩
abbrev main_v6_10 : Ref sig .tc := ⟨.hbm, 27, rfl⟩
abbrev main_while0c_c_16 : Ref sig .tc := ⟨.hbm, 28, rfl⟩
abbrev main_while0c_v7 : Ref sig .tc := ⟨.hbm, 29, rfl⟩
abbrev main_while0b_call0_c : Ref sig .tc := ⟨.hbm, 30, rfl⟩
abbrev main_while0b_call0_v0 : Ref sig .tc := ⟨.hbm, 31, rfl⟩
abbrev main_while0b_v7 : Ref sig .tc := ⟨.hbm, 32, rfl⟩
abbrev main_while0b_call1_c : Ref sig .tc := ⟨.hbm, 33, rfl⟩
abbrev main_while0b_call1_v0 : Ref sig .tc := ⟨.hbm, 34, rfl⟩
abbrev main_while0b_v8 : Ref sig .tc := ⟨.hbm, 35, rfl⟩
abbrev main_while0b_call2_c : Ref sig .tc := ⟨.hbm, 36, rfl⟩
abbrev main_while0b_call2_v0 : Ref sig .tc := ⟨.hbm, 37, rfl⟩
abbrev main_while0b_v9 : Ref sig .tc := ⟨.hbm, 38, rfl⟩
abbrev main_while0b_c_16 : Ref sig .tc := ⟨.hbm, 39, rfl⟩
abbrev main_while0b_v10 : Ref sig .tc := ⟨.hbm, 40, rfl⟩
abbrev main_while0b_v11 : Ref sig .tc := ⟨.hbm, 41, rfl⟩
abbrev main_while0b_cst_17 : Ref sig .tc := ⟨.hbm, 42, rfl⟩
abbrev main_while0b_v12 : Ref sig .tc := ⟨.hbm, 43, rfl⟩
abbrev main_while0b_v13 : Ref sig .tc := ⟨.hbm, 44, rfl⟩
abbrev main_while0b_v14 : Ref sig .tc := ⟨.hbm, 45, rfl⟩
abbrev main_while0b_v15 : Ref sig .tc := ⟨.hbm, 46, rfl⟩
abbrev main_while0b_v16 : Ref sig .tc := ⟨.hbm, 47, rfl⟩
abbrev main_while0b_v17 : Ref sig .tc := ⟨.hbm, 48, rfl⟩
abbrev main_while0b_v18 : Ref sig .tc := ⟨.hbm, 49, rfl⟩
abbrev main_while0b_v19 : Ref sig .tc := ⟨.hbm, 50, rfl⟩
abbrev main_while0b_v20 : Ref sig .tc := ⟨.hbm, 51, rfl⟩
abbrev main_while0b_v21 : Ref sig .tc := ⟨.hbm, 52, rfl⟩
abbrev main_while0b_v22 : Ref sig .tc := ⟨.hbm, 53, rfl⟩
abbrev main_while0b_v23 : Ref sig .tc := ⟨.hbm, 54, rfl⟩
abbrev main_while0b_cst_18 : Ref sig .tc := ⟨.hbm, 55, rfl⟩
abbrev main_while0b_v24 : Ref sig .tc := ⟨.hbm, 56, rfl⟩
abbrev main_while0b_v25 : Ref sig .tc := ⟨.hbm, 57, rfl⟩
abbrev main_while0b_v26 : Ref sig .tc := ⟨.hbm, 58, rfl⟩
abbrev main_while0b_v27 : Ref sig .tc := ⟨.hbm, 59, rfl⟩
abbrev main_while0b_v28 : Ref sig .tc := ⟨.hbm, 60, rfl⟩
abbrev main_while0b_v29 : Ref sig .tc := ⟨.hbm, 61, rfl⟩
abbrev main_while0b_v30 : Ref sig .tc := ⟨.hbm, 62, rfl⟩
abbrev main_while0b_v31 : Ref sig .tc := ⟨.hbm, 63, rfl⟩
abbrev main_while0b_v32 : Ref sig .tc := ⟨.hbm, 64, rfl⟩
abbrev main_while0b_v33 : Ref sig .tc := ⟨.hbm, 65, rfl⟩
abbrev main_while0b_v34 : Ref sig .tc := ⟨.hbm, 66, rfl⟩
abbrev main_while0b_v35 : Ref sig .tc := ⟨.hbm, 67, rfl⟩
abbrev main_while0b_cst_19 : Ref sig .tc := ⟨.hbm, 68, rfl⟩
abbrev main_while0b_v36 : Ref sig .tc := ⟨.hbm, 69, rfl⟩
abbrev main_while0b_v37 : Ref sig .tc := ⟨.hbm, 70, rfl⟩
abbrev main_while0b_v38 : Ref sig .tc := ⟨.hbm, 71, rfl⟩
abbrev main_while0b_v39 : Ref sig .tc := ⟨.hbm, 72, rfl⟩
abbrev main_while0b_v40 : Ref sig .tc := ⟨.hbm, 73, rfl⟩
abbrev main_while0b_v41 : Ref sig .tc := ⟨.hbm, 74, rfl⟩
abbrev main_while0b_v42 : Ref sig .tc := ⟨.hbm, 75, rfl⟩
abbrev main_while0b_v43 : Ref sig .tc := ⟨.hbm, 76, rfl⟩
abbrev main_while0b_v44 : Ref sig .tc := ⟨.hbm, 77, rfl⟩
abbrev main_while0b_v45 : Ref sig .tc := ⟨.hbm, 78, rfl⟩
abbrev main_while0b_v46 : Ref sig .tc := ⟨.hbm, 79, rfl⟩
abbrev main_while0b_v47 : Ref sig .tc := ⟨.hbm, 80, rfl⟩
abbrev main_while0b_c_20 : Ref sig .tc := ⟨.hbm, 81, rfl⟩
abbrev main_while0b_v48 : Ref sig .tc := ⟨.hbm, 82, rfl⟩
abbrev main_while0b_v49 : Ref sig .tc := ⟨.hbm, 83, rfl⟩
abbrev main_while0b_v50 : Ref sig .tc := ⟨.hbm, 84, rfl⟩
abbrev main_while0b_v51 : Ref sig .tc := ⟨.hbm, 85, rfl⟩
abbrev main_while0b_v52 : Ref sig .tc := ⟨.hbm, 86, rfl⟩
abbrev main_while0b_cst_21 : Ref sig .tc := ⟨.hbm, 87, rfl⟩
abbrev main_while0b_v53 : Ref sig .tc := ⟨.hbm, 88, rfl⟩
abbrev main_while0b_v54 : Ref sig .tc := ⟨.hbm, 89, rfl⟩
abbrev main_while0b_cst_22 : Ref sig .tc := ⟨.hbm, 90, rfl⟩
abbrev main_while0b_v55 : Ref sig .tc := ⟨.hbm, 91, rfl⟩
abbrev main_while0b_v56 : Ref sig .tc := ⟨.hbm, 92, rfl⟩
abbrev main_while0b_v57 : Ref sig .tc := ⟨.hbm, 93, rfl⟩
abbrev main_while0b_cst_23 : Ref sig .tc := ⟨.hbm, 94, rfl⟩
abbrev main_while0b_v58 : Ref sig .tc := ⟨.hbm, 95, rfl⟩
abbrev main_while0b_v59 : Ref sig .tc := ⟨.hbm, 96, rfl⟩
abbrev main_while0b_v60 : Ref sig .tc := ⟨.hbm, 97, rfl⟩
abbrev main_while0b_v61 : Ref sig .tc := ⟨.hbm, 98, rfl⟩
abbrev main_while0b_v62 : Ref sig .tc := ⟨.hbm, 99, rfl⟩
abbrev main_while0b_v63 : Ref sig .tc := ⟨.hbm, 100, rfl⟩
abbrev main_while0b_v64 : Ref sig .tc := ⟨.hbm, 101, rfl⟩
abbrev main_while0b_cst_24 : Ref sig .tc := ⟨.hbm, 102, rfl⟩
abbrev main_while0b_v65 : Ref sig .tc := ⟨.hbm, 103, rfl⟩
abbrev main_while0b_v66 : Ref sig .tc := ⟨.hbm, 104, rfl⟩
abbrev main_while0b_cst_25 : Ref sig .tc := ⟨.hbm, 105, rfl⟩
abbrev main_while0b_v67 : Ref sig .tc := ⟨.hbm, 106, rfl⟩
abbrev main_while0b_v68 : Ref sig .tc := ⟨.hbm, 107, rfl⟩
abbrev main_while0b_cst_26 : Ref sig .tc := ⟨.hbm, 108, rfl⟩
abbrev main_while0b_v69 : Ref sig .tc := ⟨.hbm, 109, rfl⟩
abbrev main_while0b_v70 : Ref sig .tc := ⟨.hbm, 110, rfl⟩
abbrev main_while0b_v71 : Ref sig .tc := ⟨.hbm, 111, rfl⟩
abbrev main_while0b_cst_27 : Ref sig .tc := ⟨.hbm, 112, rfl⟩
abbrev main_while0b_v72 : Ref sig .tc := ⟨.hbm, 113, rfl⟩
abbrev main_while0b_v73 : Ref sig .tc := ⟨.hbm, 114, rfl⟩
abbrev main_while0b_v74 : Ref sig .tc := ⟨.hbm, 115, rfl⟩
abbrev main_while0b_v75 : Ref sig .tc := ⟨.hbm, 116, rfl⟩
abbrev main_while0b_v76 : Ref sig .tc := ⟨.hbm, 117, rfl⟩
abbrev main_while0b_cst_28 : Ref sig .tc := ⟨.hbm, 118, rfl⟩
abbrev main_while0b_v77 : Ref sig .tc := ⟨.hbm, 119, rfl⟩
abbrev main_while0b_cst_29 : Ref sig .tc := ⟨.hbm, 120, rfl⟩
abbrev main_while0b_v78 : Ref sig .tc := ⟨.hbm, 121, rfl⟩
abbrev main_while0b_v79 : Ref sig .tc := ⟨.hbm, 122, rfl⟩
abbrev main_while0b_cst_30 : Ref sig .tc := ⟨.hbm, 123, rfl⟩
abbrev main_while0b_call3_v0 : Ref sig .tc := ⟨.hbm, 124, rfl⟩
abbrev main_while0b_v80 : Ref sig .tc := ⟨.hbm, 125, rfl⟩
abbrev main_while0b_cst_31 : Ref sig .tc := ⟨.hbm, 126, rfl⟩
abbrev main_while0b_v81 : Ref sig .tc := ⟨.hbm, 127, rfl⟩
abbrev main_while0b_v82 : Ref sig .tc := ⟨.hbm, 128, rfl⟩
abbrev main_while0b_cst_32 : Ref sig .tc := ⟨.hbm, 129, rfl⟩
abbrev main_while0b_call4_v0 : Ref sig .tc := ⟨.hbm, 130, rfl⟩
abbrev main_while0b_v83 : Ref sig .tc := ⟨.hbm, 131, rfl⟩
abbrev main_while0b_v84 : Ref sig .tc := ⟨.hbm, 132, rfl⟩
abbrev main_while0b_v85 : Ref sig .tc := ⟨.hbm, 133, rfl⟩
abbrev main_while0b_v86 : Ref sig .tc := ⟨.hbm, 134, rfl⟩
abbrev main_while0b_cst_33 : Ref sig .tc := ⟨.hbm, 135, rfl⟩
abbrev main_while0b_v87 : Ref sig .tc := ⟨.hbm, 136, rfl⟩
abbrev main_while0b_v88 : Ref sig .tc := ⟨.hbm, 137, rfl⟩
abbrev main_while0b_cst_34 : Ref sig .tc := ⟨.hbm, 138, rfl⟩
abbrev main_while0b_call5_v0 : Ref sig .tc := ⟨.hbm, 139, rfl⟩
abbrev main_while0b_v89 : Ref sig .tc := ⟨.hbm, 140, rfl⟩
abbrev main_while0b_v90 : Ref sig .tc := ⟨.hbm, 141, rfl⟩
abbrev main_while0b_v91 : Ref sig .tc := ⟨.hbm, 142, rfl⟩
abbrev main_while0b_v92 : Ref sig .tc := ⟨.hbm, 143, rfl⟩
abbrev main_while0b_v93 : Ref sig .tc := ⟨.hbm, 144, rfl⟩
abbrev main_while0b_v94 : Ref sig .tc := ⟨.hbm, 145, rfl⟩
abbrev main_while0b_v95 : Ref sig .tc := ⟨.hbm, 146, rfl⟩
abbrev main_while0b_v96 : Ref sig .tc := ⟨.hbm, 147, rfl⟩
abbrev main_while0b_v97 : Ref sig .tc := ⟨.hbm, 148, rfl⟩
abbrev main_while0b_v98 : Ref sig .tc := ⟨.hbm, 149, rfl⟩
abbrev main_while0b_v99 : Ref sig .tc := ⟨.hbm, 150, rfl⟩
abbrev main_while0b_v100 : Ref sig .tc := ⟨.hbm, 151, rfl⟩
abbrev main_while0b_cst_35 : Ref sig .tc := ⟨.hbm, 152, rfl⟩
abbrev main_while0b_v101 : Ref sig .tc := ⟨.hbm, 153, rfl⟩
abbrev main_while0b_v102 : Ref sig .tc := ⟨.hbm, 154, rfl⟩
abbrev main_while0b_cst_36 : Ref sig .tc := ⟨.hbm, 155, rfl⟩
abbrev main_while0b_v103 : Ref sig .tc := ⟨.hbm, 156, rfl⟩
abbrev main_while0b_cst_37 : Ref sig .tc := ⟨.hbm, 157, rfl⟩
abbrev main_while0b_call6_v0 : Ref sig .tc := ⟨.hbm, 158, rfl⟩
abbrev main_while0b_v104 : Ref sig .tc := ⟨.hbm, 159, rfl⟩
abbrev main_while0b_v105 : Ref sig .tc := ⟨.hbm, 160, rfl⟩
abbrev main_while0b_cst_38 : Ref sig .tc := ⟨.hbm, 161, rfl⟩
abbrev main_while0b_v106 : Ref sig .tc := ⟨.hbm, 162, rfl⟩
abbrev main_while0b_cst_39 : Ref sig .tc := ⟨.hbm, 163, rfl⟩
abbrev main_while0b_v107 : Ref sig .tc := ⟨.hbm, 164, rfl⟩
abbrev main_while0b_v108 : Ref sig .tc := ⟨.hbm, 165, rfl⟩
abbrev main_while0b_v109 : Ref sig .tc := ⟨.hbm, 166, rfl⟩
abbrev main_while0b_cst_40 : Ref sig .tc := ⟨.hbm, 167, rfl⟩
abbrev main_while0b_call9_v0 : Ref sig .tc := ⟨.hbm, 168, rfl⟩
abbrev main_while0b_v110 : Ref sig .tc := ⟨.hbm, 169, rfl⟩
abbrev main_while0b_cst_41 : Ref sig .tc := ⟨.hbm, 170, rfl⟩
abbrev main_while0b_v111 : Ref sig .tc := ⟨.hbm, 171, rfl⟩
abbrev main_while0b_v112 : Ref sig .tc := ⟨.hbm, 172, rfl⟩
abbrev main_while0b_v113 : Ref sig .tc := ⟨.hbm, 173, rfl⟩
abbrev main_while0b_v114 : Ref sig .tc := ⟨.hbm, 174, rfl⟩
abbrev main_while0b_v115 : Ref sig .tc := ⟨.hbm, 175, rfl⟩
abbrev main_while0b_v116 : Ref sig .tc := ⟨.hbm, 176, rfl⟩
abbrev main_while0b_v117 : Ref sig .tc := ⟨.hbm, 177, rfl⟩
abbrev main_while0b_v118 : Ref sig .tc := ⟨.hbm, 178, rfl⟩
abbrev main_while0b_v119 : Ref sig .tc := ⟨.hbm, 179, rfl⟩
abbrev main_while0b_v120 : Ref sig .tc := ⟨.hbm, 180, rfl⟩
abbrev main_while0b_v121 : Ref sig .tc := ⟨.hbm, 181, rfl⟩
abbrev main_while0b_v122 : Ref sig .tc := ⟨.hbm, 182, rfl⟩
abbrev main_while0b_v123 : Ref sig .tc := ⟨.hbm, 183, rfl⟩
abbrev main_while0b_v124 : Ref sig .tc := ⟨.hbm, 184, rfl⟩
abbrev main_while0b_v125 : Ref sig .tc := ⟨.hbm, 185, rfl⟩
abbrev main_while0b_v126 : Ref sig .tc := ⟨.hbm, 186, rfl⟩
abbrev main_while0b_v127 : Ref sig .tc := ⟨.hbm, 187, rfl⟩
abbrev main_while0b_cst_42 : Ref sig .tc := ⟨.hbm, 188, rfl⟩
abbrev main_while0b_v128 : Ref sig .tc := ⟨.hbm, 189, rfl⟩
abbrev main_while0b_v129 : Ref sig .tc := ⟨.hbm, 190, rfl⟩
abbrev main_while0b_cst_43 : Ref sig .tc := ⟨.hbm, 191, rfl⟩
abbrev main_while0b_v130 : Ref sig .tc := ⟨.hbm, 192, rfl⟩
abbrev main_while0b_cst_44 : Ref sig .tc := ⟨.hbm, 193, rfl⟩
abbrev main_while0b_v131 : Ref sig .tc := ⟨.hbm, 194, rfl⟩
abbrev main_while0b_v132 : Ref sig .tc := ⟨.hbm, 195, rfl⟩
abbrev main_while0b_v133 : Ref sig .tc := ⟨.hbm, 196, rfl⟩
abbrev main_while0b_v134 : Ref sig .tc := ⟨.hbm, 197, rfl⟩
abbrev main_while0b_v135 : Ref sig .tc := ⟨.hbm, 198, rfl⟩
abbrev main_while0b_cst_45 : Ref sig .tc := ⟨.hbm, 199, rfl⟩
abbrev main_while0b_v136 : Ref sig .tc := ⟨.hbm, 200, rfl⟩
abbrev main_while0b_v137 : Ref sig .tc := ⟨.hbm, 201, rfl⟩
abbrev main_while0b_cst_46 : Ref sig .tc := ⟨.hbm, 202, rfl⟩
abbrev main_while0b_v138 : Ref sig .tc := ⟨.hbm, 203, rfl⟩
abbrev main_while0b_v139 : Ref sig .tc := ⟨.hbm, 204, rfl⟩
abbrev main_while0b_v140 : Ref sig .tc := ⟨.hbm, 205, rfl⟩
abbrev main_while0b_v141 : Ref sig .tc := ⟨.hbm, 206, rfl⟩
abbrev main_while0b_v142 : Ref sig .tc := ⟨.hbm, 207, rfl⟩
abbrev main_while0b_v143 : Ref sig .tc := ⟨.hbm, 208, rfl⟩
abbrev main_while0b_v144 : Ref sig .tc := ⟨.hbm, 209, rfl⟩
abbrev main_while0b_v145 : Ref sig .tc := ⟨.hbm, 210, rfl⟩
abbrev main_while0b_cst_47 : Ref sig .tc := ⟨.hbm, 211, rfl⟩
abbrev main_while0b_v146 : Ref sig .tc := ⟨.hbm, 212, rfl⟩
abbrev main_while0b_v147 : Ref sig .tc := ⟨.hbm, 213, rfl⟩
abbrev main_while0b_cst_48 : Ref sig .tc := ⟨.hbm, 214, rfl⟩
abbrev main_while0b_v148 : Ref sig .tc := ⟨.hbm, 215, rfl⟩
abbrev main_while0b_cst_49 : Ref sig .tc := ⟨.hbm, 216, rfl⟩
abbrev main_while0b_v149 : Ref sig .tc := ⟨.hbm, 217, rfl⟩
abbrev main_while0b_v150 : Ref sig .tc := ⟨.hbm, 218, rfl⟩
abbrev main_while0b_call12_v0 : Ref sig .tc := ⟨.hbm, 219, rfl⟩
abbrev main_while0b_v151 : Ref sig .tc := ⟨.hbm, 220, rfl⟩
abbrev main_while0b_call13_v0 : Ref sig .tc := ⟨.hbm, 221, rfl⟩
abbrev main_while0b_v152 : Ref sig .tc := ⟨.hbm, 222, rfl⟩
abbrev main_while0b_c_50 : Ref sig .tc := ⟨.hbm, 223, rfl⟩
abbrev main_while0b_v153 : Ref sig .tc := ⟨.hbm, 224, rfl⟩

abbrev nD : Nat := 1
abbrev τ : Topo := Topo.v7x

variable {F : FTy → Type} [FloatOps F]

abbrev main_while0_count : Scf.Loop 32 := ⟨0#32, 2048#32, 1#32⟩
-- ==== Proof.KernelIdealLoop.lean ====
/- The two counted loops of `KernelIdeal`'s body, read as plain functions of the three input arrays: what one inner trip makes of the carried
   values (`innerStep`), what a block of 128 inner trips makes of them (`blockState`), what the blocks before the `k`-th leave
   (`carryAt`), and the run of one outer trip and of the outer loop against these functions. -/
module

public import proofs.«01_k».proof.Proof.Gen.KernelIdeal.Loops
public import Idealize.ShloMosaic.Lib.Pipeline.FrameBody

@[expose] public section

set_option maxRecDepth 8192
set_option maxHeartbeats 4000000

noncomputable section

namespace Cert.KernelIdeal.Lv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-! ## The loops as functions -/

/-- What the outer loop carries: the map, the two second-moment matrices and the trace of the third. -/
abbrev Carry (F : FTy → Type) : Type := FVec F S128x128 .f32 × FVec F S128x128 .f32 × FVec F S128x128 .f32 × FVec F S1x1 .f32

/-- What the inner loop carries: the same, and the block's rows of costs and of update flags. -/
abbrev InCarry (F : FTy → Type) : Type :=
  FVec F S128x128 .f32 × FVec F S128x128 .f32 × FVec F S128x128 .f32 × FVec F S1x1 .f32 × FVec F S1x128 .f32 × FVec F S1x128 .f32

/-- The row of a [2048, 128] array that inner trip `j` of block `i` loads. -/
def rowOf (x : Vec F S2048x128 .f32) (i : Fin k0_t1_loop.trips) (j : Fin k0_t2_loop.trips) : Vec F S1x128 .f32 :=
  fun p => x ((Rect.unit (s := S2048x128) (k0_off1 i j) S1x128.size (k0_off1_inb i j)).toLoadRect.idx p)

/-- One inner trip, from its three rows: the carried values after it. -/
def innerStep (w : BitVec 32) (j : Fin k0_t2_loop.trips) (q k v : Vec F S1x128 .f32) (s : InCarry F) : InCarry F :=
  let iv : BitVec 32 := Scf.iv 0#32 1#32 j
  let t : BitVec 32 := Scalar.addi (Scalar.muli w 128#32) iv
  let Sqq := k0_pay15 w 0#32 1#32 j s.2.1 q
  let SqvT := k0_pay16 w 0#32 1#32 j s.2.2.1 q v
  let vv := k0_pay17 v
  let trSvv := k0_pay18 w 0#32 1#32 j s.2.2.2.1 v
  let JS := k0_pay19 w 0#32 1#32 j s.1 s.2.1 q
  let kS := k0_pay20 w 0#32 1#32 j s.2.1 q k
  let vk := k0_pay21 k v
  let r22 := k0_pay22 w 0#32 1#32 j s.1 s.2.2.1 q v
  let sJ := k0_pay23 r22
  let sl := k0_pay24 SqvT vk
  let aJJ := k0_pay25 s.1 JS
  let aJl := k0_pay26 JS vk
  let all := k0_pay27 k vv kS
  let first : BitVec 1 := Scalar.cmpi .eq t 0#32
  let r28 := k0_pay28 s.1 t JS
  let r29 := k0_pay29 t k vv kS
  let r30 := k0_pay30 s.1 k vv JS kS vk
  let r31 := k0_pay31 s.1 t k vv JS kS vk
  let r32 := k0_pay32 (F := F)
  let wF := k0_pay37 sJ sl aJJ aJl all first r28 r30 r31 r32
  let wI := k0_pay38 sJ sl aJJ aJl all first r28 r29 r30 r31 r32
  (k0_pay39 s.1 vk sJ sl aJJ aJl all first r28 r29 r30 r31 r32, Sqq, SqvT, trSvv,
    k0_pay8 s.2.2.2.2.1 iv aJJ aJl all wF wI (k0_pay40 trSvv) (k0_pay41 sJ sl aJJ aJl all first r28 r29 r30 r31 r32),
    k0_pay9 s.2.2.2.2.2 iv first (k0_pay36 sJ sl aJl r28))

/-- The inner loop's carried values before its trip `j`, entered with `s`. -/
def innerAt (q k v : Vec F S2048x128 .f32) (i : Fin k0_t1_loop.trips) (s : Carry F) : ℕ → InCarry F
  | 0 => (s.1, s.2.1, s.2.2.1, s.2.2.2, k0_pay5 (F := F), k0_pay6 (F := F))
  | j + 1 => if h : j < k0_t2_loop.trips then
      innerStep (Scf.iv 0#32 1#32 i) ⟨j, h⟩ (rowOf q i ⟨j, h⟩) (rowOf k i ⟨j, h⟩) (rowOf v i ⟨j, h⟩) (innerAt q k v i s j)
    else innerAt q k v i s j

/-- What block `i` makes of what it is entered with. -/
@[irreducible] def blockState (q k v : Vec F S2048x128 .f32) (i : Fin k0_t1_loop.trips) (s : Carry F) : InCarry F :=
  innerAt q k v i s k0_t2_loop.trips

/-- The part of the inner loop's values that the outer loop carries on. -/
def keep (s : InCarry F) : Carry F := (s.1, s.2.1, s.2.2.1, s.2.2.2.1)

/-- The outer loop's carried values before block `i`. -/
def carryAt (q k v : Vec F S2048x128 .f32) : ℕ → Carry F
  | 0 => (k0_pay1 (F := F), k0_pay2 (F := F), k0_pay3 (F := F), k0_pay4 (F := F))
  | i + 1 => if h : i < k0_t1_loop.trips then keep (blockState q k v ⟨i, h⟩ (carryAt q k v i)) else carryAt q k v i

/-- The carried values after block `i`. -/
theorem carryAt_succ (q k v : Vec F S2048x128 .f32) (i : Fin k0_t1_loop.trips) :
    carryAt q k v (i.val + 1) = keep (blockState q k v i (carryAt q k v i.val)) := by
  rw [carryAt]; exact dif_pos i.isLt

/-- The rectangle of a [16, 1, 128] array that block `i` stores. -/
abbrev outRect (i : Fin k0_t1_loop.trips) : Rect S16x1x128 := Rect.unit (s := S16x1x128) (k0_off2 i) S1x1x128.size (k0_off2_inb i)

/-- The rows of costs stored by the blocks before the `i`-th, newest first. -/
def costPieces (q k v : Vec F S2048x128 .f32) : ℕ → List (View.Piece (Elt F) S16x1x128 .f32)
  | 0 => []
  | i + 1 => if h : i < k0_t1_loop.trips then
      [⟨outRect ⟨i, h⟩, k0_pay10 (blockState q k v ⟨i, h⟩ (carryAt q k v i)).2.2.2.2.1⟩] ++ costPieces q k v i
    else costPieces q k v i

/-- The rows of update flags stored by the blocks before the `i`-th, newest first. -/
def flagPieces (q k v : Vec F S2048x128 .f32) : ℕ → List (View.Piece (Elt F) S16x1x128 .f32)
  | 0 => []
  | i + 1 => if h : i < k0_t1_loop.trips then
      [⟨outRect ⟨i, h⟩, k0_pay11 (blockState q k v ⟨i, h⟩ (carryAt q k v i)).2.2.2.2.2⟩] ++ flagPieces q k v i
    else flagPieces q k v i

/-- The rows of costs stored up to and with block `i`. -/
theorem costPieces_succ (q k v : Vec F S2048x128 .f32) (i : Fin k0_t1_loop.trips) :
    costPieces q k v (i.val + 1)
      = [⟨outRect i, k0_pay10 (blockState q k v i (carryAt q k v i.val)).2.2.2.2.1⟩] ++ costPieces q k v i.val := by
  rw [costPieces]; exact dif_pos i.isLt

/-- The rows of update flags stored up to and with block `i`. -/
theorem flagPieces_succ (q k v : Vec F S2048x128 .f32) (i : Fin k0_t1_loop.trips) :
    flagPieces q k v (i.val + 1)
      = [⟨outRect i, k0_pay11 (blockState q k v i (carryAt q k v i.val)).2.2.2.2.2⟩] ++ flagPieces q k v i.val := by
  rw [flagPieces]; exact dif_pos i.isLt

/-! ## The inner loop is `innerAt` -/

/-- A row load off a whole buffer holding `x` reads the row of `x`. -/
theorem readAt_row (a : Memref sig .tc .vmem S2048x128 .f32) (ha : a.IsWhole) (x : Vec F S2048x128 .f32) (i : Fin k0_t1_loop.trips)
    (j : Fin k0_t2_loop.trips) :
    a.view.readAt (Elt F) (Rect.unit (s := S2048x128) (k0_off1 i j) S1x128.size (k0_off1_inb i j)).toLoadRect (ha.unread x) = rowOf x i j := by
  funext p
  rw [View.readAt_apply, ha.read_unread]
  rfl

/-- The inner trip that the run finds is `innerStep` on the three rows. -/
theorem trip_eq (𝒱 : Variants) (c : Dev nD) (bd : Option 𝒱.V) (arg0 : Memref sig .tc .vmem S2048x128 .f32) (harg0 : arg0.IsWhole) (arg1 : Memref sig .tc .vmem S2048x128 .f32) (harg1 : arg1.IsWhole) (arg2 : Memref sig .tc .vmem S2048x128 .f32) (harg2 : arg2.IsWhole) (arg3 : Memref sig .tc .vmem S16x1x128 .f32) (harg3 : arg3.IsWhole) (arg4 : Memref sig .tc .vmem S16x1x128 .f32) (harg4 : arg4.IsWhole) (arg5 : Memref sig .tc .vmem S128x128 .f32) (harg5 : arg5.IsWhole) (i : Fin k0_t1_loop.trips) (w : BitVec 32)
    (q k v : Vec F S2048x128 .f32) (j : Fin k0_t2_loop.trips) (s : InCarry F) :
    tripR_k0_t2 𝒱 c bd arg0 harg0 arg1 harg1 arg2 harg2 arg3 harg3 arg4 harg4 arg5 harg5 i w (harg0.unread q) (harg1.unread k) (harg2.unread v) j s
      = innerStep w j (rowOf q i j) (rowOf k i j) (rowOf v i j) s := by
  rw [← readAt_row arg0 harg0 q i j, ← readAt_row arg1 harg1 k i j, ← readAt_row arg2 harg2 v i j]
  unfold tripR_k0_t2 trip_k0_t2
  rfl

/-- The inner loop's generated recursion is `innerAt`. -/
theorem st_eq (𝒱 : Variants) (c : Dev nD) (bd : Option 𝒱.V) (arg0 : Memref sig .tc .vmem S2048x128 .f32) (harg0 : arg0.IsWhole) (arg1 : Memref sig .tc .vmem S2048x128 .f32) (harg1 : arg1.IsWhole) (arg2 : Memref sig .tc .vmem S2048x128 .f32) (harg2 : arg2.IsWhole) (arg3 : Memref sig .tc .vmem S16x1x128 .f32) (harg3 : arg3.IsWhole) (arg4 : Memref sig .tc .vmem S16x1x128 .f32) (harg4 : arg4.IsWhole) (arg5 : Memref sig .tc .vmem S128x128 .f32) (harg5 : arg5.IsWhole) (i : Fin k0_t1_loop.trips)
    (q k v : Vec F S2048x128 .f32) (s : Carry F) (n : ℕ) (hn : n ≤ k0_t2_loop.trips) :
    st_k0_t2 𝒱 c bd arg0 harg0 arg1 harg1 arg2 harg2 arg3 harg3 arg4 harg4 arg5 harg5 i (Scf.iv 0#32 1#32 i) (harg0.unread q) (harg1.unread k) (harg2.unread v)
        (s.1, s.2.1, s.2.2.1, s.2.2.2, k0_pay5 (F := F), k0_pay6 (F := F)) n = innerAt q k v i s n := by
  induction n with
  | zero => rfl
  | succ n ih =>
    have h : n < k0_t2_loop.trips := hn
    rw [st_k0_t2_succ (k := ⟨n, h⟩), trip_eq, ih (le_of_lt h), innerAt, dif_pos h]

/-! ## One outer trip, and the outer loop -/

/-- What an outer trip touches: the three inputs at `q`, `k`, `v` and the two row outputs at any contents. -/
abbrev Held (c : Dev nD) (arg0 : Memref sig .tc .vmem S2048x128 .f32) (harg0 : arg0.IsWhole) (arg1 : Memref sig .tc .vmem S2048x128 .f32) (harg1 : arg1.IsWhole) (arg2 : Memref sig .tc .vmem S2048x128 .f32) (harg2 : arg2.IsWhole) (arg3 : Memref sig .tc .vmem S16x1x128 .f32) (harg3 : arg3.IsWhole) (arg4 : Memref sig .tc .vmem S16x1x128 .f32) (harg4 : arg4.IsWhole) (arg5 : Memref sig .tc .vmem S128x128 .f32) (harg5 : arg5.IsWhole)
    (q k v : Vec F S2048x128 .f32) (f3 : BufTy.Contents (Elt F) arg3.view.ty) (f4 : BufTy.Contents (Elt F) arg4.view.ty) : sProp 𝕄 :=
  iprop((arg0.view.loc (c : Thread nD τ) ↦[arg0.view.set]{fullShare} harg0.unread q) ∗ (arg1.view.loc (c : Thread nD τ) ↦[arg1.view.set]{fullShare} harg1.unread k) ∗ (arg2.view.loc (c : Thread nD τ) ↦[arg2.view.set]{fullShare} harg2.unread v)
    ∗ (arg3.view.loc (c : Thread nD τ) ↦[arg3.view.set]{fullShare} f3) ∗ (arg4.view.loc (c : Thread nD τ) ↦[arg4.view.set]{fullShare} f4))

/-- One outer trip: block `i` entered with `s` yields `keep (blockState …)` and stores its two rows. -/
theorem outer_trip (𝒱 : Variants) (c : Dev nD) (bd : Option 𝒱.V) (arg0 : Memref sig .tc .vmem S2048x128 .f32) (harg0 : arg0.IsWhole) (arg1 : Memref sig .tc .vmem S2048x128 .f32) (harg1 : arg1.IsWhole) (arg2 : Memref sig .tc .vmem S2048x128 .f32) (harg2 : arg2.IsWhole) (arg3 : Memref sig .tc .vmem S16x1x128 .f32) (harg3 : arg3.IsWhole) (arg4 : Memref sig .tc .vmem S16x1x128 .f32) (harg4 : arg4.IsWhole) (arg5 : Memref sig .tc .vmem S128x128 .f32) (harg5 : arg5.IsWhole) (q k v : Vec F S2048x128 .f32) (i : Fin k0_t1_loop.trips)
    (E : Set ℕ) (s : Carry F) (f3 : BufTy.Contents (Elt F) arg3.view.ty) (f4 : BufTy.Contents (Elt F) arg4.view.ty) :
    Held c arg0 harg0 arg1 harg1 arg2 harg2 arg3 harg3 arg4 harg4 arg5 harg5 q k v f3 f4
    ⊢ wp frame (wpE (defs₀ (F := F)) 𝒱 (c : Thread nD τ) bd) E (k0_t1_body (F := F) arg0 harg0 arg1 harg1 arg2 harg2 arg3 harg3 arg4 harg4 arg5 harg5 i s)
        (fun y => iprop(⌜y = keep (blockState q k v i s)⌝ ∗ Held c arg0 harg0 arg1 harg1 arg2 harg2 arg3 harg3 arg4 harg4 arg5 harg5 q k v
          (arg3.view.writes (Elt F) f3 [⟨outRect i, k0_pay10 (blockState q k v i s).2.2.2.2.1⟩])
          (arg4.view.writes (Elt F) f4 [⟨outRect i, k0_pay11 (blockState q k v i s).2.2.2.2.2⟩]))) := by
  have hi : i.val < 16 := Nat.lt_of_lt_of_le i.isLt k0_t1_abs.2.1
  rw [show blockState q k v i s = st_k0_t2 𝒱 c bd arg0 harg0 arg1 harg1 arg2 harg2 arg3 harg3 arg4 harg4 arg5 harg5 i (Scf.iv 0#32 1#32 i) (harg0.unread q) (harg1.unread k) (harg2.unread v)
        (s.1, s.2.1, s.2.2.1, s.2.2.2, k0_pay5 (F := F), k0_pay6 (F := F)) k0_t2_loop.trips from by
      unfold blockState; exact (st_eq 𝒱 c bd arg0 harg0 arg1 harg1 arg2 harg2 arg3 harg3 arg4 harg4 arg5 harg5 i q k v s _ le_rfl).symm]
  unfold k0_t1_body keep
  iintro ⟨H0, H1, H2, H3, H4⟩
  sl_exec
  sl_step
  sl_close

/-- The outer loop's invariant before block `i`: the inputs as they were, the two row outputs with the earlier blocks' rows stored over
    what they held at entry, the carried values `carryAt`'s. -/
abbrev inv (c : Dev nD) (arg0 : Memref sig .tc .vmem S2048x128 .f32) (harg0 : arg0.IsWhole) (arg1 : Memref sig .tc .vmem S2048x128 .f32) (harg1 : arg1.IsWhole) (arg2 : Memref sig .tc .vmem S2048x128 .f32) (harg2 : arg2.IsWhole) (arg3 : Memref sig .tc .vmem S16x1x128 .f32) (harg3 : arg3.IsWhole) (arg4 : Memref sig .tc .vmem S16x1x128 .f32) (harg4 : arg4.IsWhole) (arg5 : Memref sig .tc .vmem S128x128 .f32) (harg5 : arg5.IsWhole)
    (q k v : Vec F S2048x128 .f32) (G3 : BufTy.Contents (Elt F) arg3.view.ty) (G4 : BufTy.Contents (Elt F) arg4.view.ty) (i : ℕ) (s : Carry F) : sProp 𝕄 :=
  iprop((arg0.view.loc (c : Thread nD τ) ↦[arg0.view.set]{fullShare} harg0.unread q) ∗ (arg1.view.loc (c : Thread nD τ) ↦[arg1.view.set]{fullShare} harg1.unread k) ∗ (arg2.view.loc (c : Thread nD τ) ↦[arg2.view.set]{fullShare} harg2.unread v)
    ∗ (∃ f, (arg3.view.loc (c : Thread nD τ) ↦[arg3.view.set]{fullShare} f) ∗ ⌜f = arg3.view.writes (Elt F) G3 (costPieces q k v i)⌝)
    ∗ (∃ f, (arg4.view.loc (c : Thread nD τ) ↦[arg4.view.set]{fullShare} f) ∗ ⌜f = arg4.view.writes (Elt F) G4 (flagPieces q k v i)⌝)
    ∗ ⌜s = carryAt q k v i⌝)

set_option warn.classDefReducibility false in
/-- The outer loop by that invariant. -/
@[sl_loop] def outerLoop (𝒱 : Variants) (c : Dev nD) (bd : Option 𝒱.V) (E : Set ℕ) (arg0 : Memref sig .tc .vmem S2048x128 .f32) (harg0 : arg0.IsWhole) (arg1 : Memref sig .tc .vmem S2048x128 .f32) (harg1 : arg1.IsWhole) (arg2 : Memref sig .tc .vmem S2048x128 .f32) (harg2 : arg2.IsWhole) (arg3 : Memref sig .tc .vmem S16x1x128 .f32) (harg3 : arg3.IsWhole) (arg4 : Memref sig .tc .vmem S16x1x128 .f32) (harg4 : arg4.IsWhole) (arg5 : Memref sig .tc .vmem S128x128 .f32) (harg5 : arg5.IsWhole)
    (q k v : Vec F S2048x128 .f32) (G3 : BufTy.Contents (Elt F) arg3.view.ty) (G4 : BufTy.Contents (Elt F) arg4.view.ty) :
    LoopInvTy_k0_t1 (F := F) Unit ℕ (UR sig nD τ) ℕ 𝒱 c bd E arg0 harg0 arg1 harg1 arg2 harg2 arg3 harg3 arg4 harg4 arg5 harg5 (k0_pay1 (F := F), k0_pay2 (F := F), k0_pay3 (F := F), k0_pay4 (F := F)) where
  inv := inv (F := F) c arg0 harg0 arg1 harg1 arg2 harg2 arg3 harg3 arg4 harg4 arg5 harg5 q k v G3 G4
  step i s := by
    iintro ⟨H0, H1, H2, ⟨%f3, H3, %h3⟩, ⟨%f4, H4, %h4⟩, %hs⟩
    subst hs
    iapply (wp_wand_r Idealize.ShloMosaic.frame (wpE (defs₀ (F := F)) 𝒱 (c : Thread nD τ) bd) E)
    isplitl [H0 H1 H2 H3 H4]
    · iapply (outer_trip 𝒱 c bd arg0 harg0 arg1 harg1 arg2 harg2 arg3 harg3 arg4 harg4 arg5 harg5 q k v i E (carryAt q k v i.val) f3 f4)
      isplitl [H0]; · iexact H0
      isplitl [H1]; · iexact H1
      isplitl [H2]; · iexact H2
      isplitl [H3]; · iexact H3
      iexact H4
    · iintro %y ⟨%hy, H0, H1, H2, H3, H4⟩
      isplitl [H0]; · iexact H0
      isplitl [H1]; · iexact H1
      isplitl [H2]; · iexact H2
      simp only [carryAt_succ, costPieces_succ, flagPieces_succ]
      isplitl [H3]
      · iexists _; isplitl [H3]; · iexact H3
        ipureintro; rw [h3, ← View.writes_append]
      isplitl [H4]
      · iexists _; isplitl [H4]; · iexact H4
        ipureintro; rw [h4, ← View.writes_append]
      ipureintro; rw [hy]

end Cert.KernelIdeal.Lv

end
-- ==== Proof.KernelIdealRun.lean ====
/- `KernelIdeal` from launch to end: its body's triple with the three results named (`costOut`, `flagOut`, `mapOut`), the pipeline's proof data
   over it, and the run of the whole program. -/
module

public import proofs.«01_k».proof.Proof.KernelIdealLoop
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameSuffix
public import Idealize.ShloMosaic.Lib.Pointwise
public import Idealize.ShloMosaic.Lib.VecWindow
public import Idealize.ShloMosaic.Lib.Claim

@[expose] public section

set_option maxRecDepth 16384

noncomputable section

namespace Cert.KernelIdeal.Lv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## What the body leaves in its three results -/

/-- The outer loop has sixteen trips. -/
theorem trips1 : k0_t1_loop.trips = 16 := by decide +kernel
/-- The inner loop has 128 trips. -/
theorem trips2 : k0_t2_loop.trips = 128 := by decide +kernel

/-- The block that stores row `y 0` of a [16, 1, 128] result. -/
def blkOf (y : S16x1x128.Idx) : Fin k0_t1_loop.trips := ⟨(y 0).val, lt_of_lt_of_eq (y 0).isLt trips1.symm⟩

/-- The costs, [16, 1, 128]: row `i` is what block `i` stores. -/
def costOut (q k v : Vec F S2048x128 .f32) : Vec F S16x1x128 .f32 := fun y =>
  k0_pay10 (blockState q k v (blkOf y) (carryAt q k v (blkOf y).val)).2.2.2.2.1 (ix3 0 0 (y 2))

/-- The update flags, [16, 1, 128]: row `i` is what block `i` stores. -/
def flagOut (q k v : Vec F S2048x128 .f32) : Vec F S16x1x128 .f32 := fun y =>
  k0_pay11 (blockState q k v (blkOf y) (carryAt q k v (blkOf y).val)).2.2.2.2.2 (ix3 0 0 (y 2))

/-- The map after the last block. -/
def mapOut (q k v : Vec F S2048x128 .f32) : Vec F S128x128 .f32 := (carryAt q k v k0_t1_loop.trips).1

/-- A place of block `i`'s rectangle lies in row `i`. -/
theorem blkOf_emb (i : Fin k0_t1_loop.trips) (x : (outRect i).shape.Idx) : blkOf ((outRect i).emb x) = i := by
  apply Fin.ext
  show k0_off2 i 0 + 1 * (x 0).val = i.val
  rw [k0_off2_eq]
  have h : (x 0).val < 1 := (x 0).isLt
  show i.val + 1 * (x 0).val = i.val
  omega

/-- And its lane is the rectangle's own. -/
theorem lane_emb (i : Fin k0_t1_loop.trips) (x : (outRect i).shape.Idx) : ix3 0 0 ((outRect i).emb x 2) = x := by
  funext a
  apply Fin.ext
  match a with
  | ⟨0, _⟩ => have h : (x 0).val < 1 := (x 0).isLt; show 0 = (x 0).val; omega
  | ⟨1, _⟩ => have h : (x 1).val < 1 := (x 1).isLt; show 0 = (x 1).val; omega
  | ⟨2, _⟩ =>
    show k0_off2 i 2 + 1 * (x 2).val = (x 2).val
    rw [k0_off2_eq]
    show 0 + 1 * (x 2).val = (x 2).val
    omega

/-- Read at a place of block `i`'s rectangle, the costs are what block `i` stores there. -/
theorem costOut_emb (q k v : Vec F S2048x128 .f32) (i : Fin k0_t1_loop.trips) (x : (outRect i).shape.Idx) :
    costOut q k v ((outRect i).emb x) = k0_pay10 (blockState q k v i (carryAt q k v i.val)).2.2.2.2.1 x := by
  unfold costOut
  rw [blkOf_emb]
  exact congrArg _ (lane_emb i x)

/-- Read at a place of block `i`'s rectangle, the update flags are what block `i` stores there. -/
theorem flagOut_emb (q k v : Vec F S2048x128 .f32) (i : Fin k0_t1_loop.trips) (x : (outRect i).shape.Idx) :
    flagOut q k v ((outRect i).emb x) = k0_pay11 (blockState q k v i (carryAt q k v i.val)).2.2.2.2.2 x := by
  unfold flagOut
  rw [blkOf_emb]
  exact congrArg _ (lane_emb i x)

/-- Every place of row `i` lies in block `i`'s rectangle. -/
theorem mem_outRect (y : S16x1x128.Idx) (i : Fin k0_t1_loop.trips) (h : (y 0).val = i.val) : y ∈ (outRect i).set := by
  have h1 : (y 1).val < 1 := (y 1).isLt
  have h2 : (y 2).val < 128 := (y 2).isLt
  refine (outRect i).toLoadRect.mem_set.mpr fun a => ?_
  match a with
  | ⟨0, _⟩ => exact ⟨0, Nat.one_pos, by show (y 0).val = k0_off2 i 0 + 1 * 0; rw [k0_off2_eq, h]; rfl⟩
  | ⟨1, _⟩ => exact ⟨0, Nat.one_pos, by show (y 1).val = k0_off2 i 1 + 1 * 0; rw [k0_off2_eq]; show (y 1).val = 0 + 1 * 0; omega⟩
  | ⟨2, _⟩ => exact ⟨(y 2).val, h2, by show (y 2).val = k0_off2 i 2 + 1 * (y 2).val; rw [k0_off2_eq]; show (y 2).val = 0 + 1 * (y 2).val; omega⟩

/-- The stored rows of costs agree with `costOut`, and those of the first `n` blocks hold the first `n` rows. -/
theorem costPieces_spec (q k v : Vec F S2048x128 .f32) (n : ℕ) (hn : n ≤ k0_t1_loop.trips) :
    (∀ p ∈ costPieces q k v n, ∀ x : p.1.shape.Idx, p.2 x = costOut q k v (p.1.emb x))
      ∧ ∀ y : S16x1x128.Idx, (y 0).val < n → ∃ p ∈ costPieces q k v n, y ∈ p.1.set := by
  induction n with
  | zero => exact ⟨fun p hp => absurd hp List.not_mem_nil, fun y hy => absurd hy (Nat.not_lt_zero _)⟩
  | succ n ih =>
    obtain ⟨ih1, ih2⟩ := ih (Nat.le_of_succ_le hn)
    rw [costPieces_succ q k v ⟨n, hn⟩]
    refine ⟨fun p hp x => ?_, fun y hy => ?_⟩
    · rcases List.mem_append.mp hp with hp | hp
      · obtain rfl := List.mem_singleton.mp hp
        exact (costOut_emb q k v ⟨n, hn⟩ x).symm
      · exact ih1 p hp x
    · rcases Nat.lt_succ_iff_lt_or_eq.mp hy with hy | hy
      · obtain ⟨p, hp, h⟩ := ih2 y hy
        exact ⟨p, List.mem_append_right _ hp, h⟩
      · exact ⟨_, List.mem_append_left _ (List.mem_singleton.mpr rfl), mem_outRect y ⟨n, hn⟩ hy⟩

/-- The same of the update flags. -/
theorem flagPieces_spec (q k v : Vec F S2048x128 .f32) (n : ℕ) (hn : n ≤ k0_t1_loop.trips) :
    (∀ p ∈ flagPieces q k v n, ∀ x : p.1.shape.Idx, p.2 x = flagOut q k v (p.1.emb x))
      ∧ ∀ y : S16x1x128.Idx, (y 0).val < n → ∃ p ∈ flagPieces q k v n, y ∈ p.1.set := by
  induction n with
  | zero => exact ⟨fun p hp => absurd hp List.not_mem_nil, fun y hy => absurd hy (Nat.not_lt_zero _)⟩
  | succ n ih =>
    obtain ⟨ih1, ih2⟩ := ih (Nat.le_of_succ_le hn)
    rw [flagPieces_succ q k v ⟨n, hn⟩]
    refine ⟨fun p hp x => ?_, fun y hy => ?_⟩
    · rcases List.mem_append.mp hp with hp | hp
      · obtain rfl := List.mem_singleton.mp hp
        exact (flagOut_emb q k v ⟨n, hn⟩ x).symm
      · exact ih1 p hp x
    · rcases Nat.lt_succ_iff_lt_or_eq.mp hy with hy | hy
      · obtain ⟨p, hp, h⟩ := ih2 y hy
        exact ⟨p, List.mem_append_right _ hp, h⟩
      · exact ⟨_, List.mem_append_left _ (List.mem_singleton.mpr rfl), mem_outRect y ⟨n, hn⟩ hy⟩

/-- What a buffer holds once every block's row of costs is stored over anything: `costOut`. -/
theorem read_costs (a : Memref sig .tc .vmem S16x1x128 .f32) (f : BufTy.Contents (Elt F) a.view.ty) (q k v : Vec F S2048x128 .f32) :
    a.view.read (Elt F) (a.view.writes (Elt F) f (costPieces q k v k0_t1_loop.trips)) = costOut q k v := by
  obtain ⟨h1, h2⟩ := costPieces_spec q k v _ le_rfl
  exact funext fun y => View.read_writes_apply_of_pieces a.view f _ _ h1 y (h2 y (lt_of_lt_of_eq (y 0).isLt trips1.symm))

/-- The same of the update flags. -/
theorem read_flags (a : Memref sig .tc .vmem S16x1x128 .f32) (f : BufTy.Contents (Elt F) a.view.ty) (q k v : Vec F S2048x128 .f32) :
    a.view.read (Elt F) (a.view.writes (Elt F) f (flagPieces q k v k0_t1_loop.trips)) = flagOut q k v := by
  obtain ⟨h1, h2⟩ := flagPieces_spec q k v _ le_rfl
  exact funext fun y => View.read_writes_apply_of_pieces a.view f _ _ h1 y (h2 y (lt_of_lt_of_eq (y 0).isLt trips1.symm))

/-! ## The body's triple -/

set_option maxHeartbeats 1000000 in
/-- The body on whole buffers: the inputs are left as they were, and the three results hold `costOut`, `flagOut` and `mapOut` of them. -/
theorem body_run (c : Dev nD) (arg0 : Memref sig .tc .vmem S2048x128 .f32) (harg0 : arg0.IsWhole) (arg1 : Memref sig .tc .vmem S2048x128 .f32) (harg1 : arg1.IsWhole) (arg2 : Memref sig .tc .vmem S2048x128 .f32) (harg2 : arg2.IsWhole) (arg3 : Memref sig .tc .vmem S16x1x128 .f32) (harg3 : arg3.IsWhole) (arg4 : Memref sig .tc .vmem S16x1x128 .f32) (harg4 : arg4.IsWhole) (arg5 : Memref sig .tc .vmem S128x128 .f32) (harg5 : arg5.IsWhole) (q k v : Vec F S2048x128 .f32) (E : Set ℕ) (K : PUnit → sProp 𝕄) :
    iprop(owns (c : Thread nD τ) arg0 fullShare q ∗ owns (c : Thread nD τ) arg1 fullShare k ∗ owns (c : Thread nD τ) arg2 fullShare v
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg0 fullShare q ∗ owns (c : Thread nD τ) arg1 fullShare k ∗ owns (c : Thread nD τ) arg2 fullShare v
            ∗ owns (c : Thread nD τ) arg3 fullShare (costOut q k v) ∗ owns (c : Thread nD τ) arg4 fullShare (flagOut q k v)
            ∗ owns (c : Thread nD τ) arg5 fullShare (mapOut q k v)) -∗ K ⟨⟩))
      ⊢ wp frame (wpE (defs₀ (F := F)) Variants.none c none) E (cc0__lv_body arg0 harg0 arg1 harg1 arg2 harg2 arg3 harg3 arg4 harg4 arg5 harg5) K := by
  simp only [cc0__lv_body_eq_skeleton]; unfold cc0__lv_body_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg0.eq_unread hf0; obtain rfl := harg1.eq_unread hf1; obtain rfl := harg2.eq_unread hf2
  sl_exec
  sl_step
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; · ipureintro; exact harg2.read_unread _
    iexact H2
  isplitl [H3]
  · iexists _; isplitr; swap; · iexact H3
    ipureintro; exact read_costs arg3 _ q k v
  isplitl [H4]
  · iexists _; isplitr; swap; · iexact H4
    ipureintro; exact read_flags arg4 _ q k v
  iexists _; isplitr; swap; · iexact H5
  ipureintro; exact View.read_writes_full arg5.view _ _ _ _

/-! ## The pipeline's proof data -/

variable (m : (ℓ : Loc nD τ sig) → Buf (Elt F) ℓ) (ρ : Dev nD → PrngReg)

/-- The proof data of the one pipeline: the arrays as launched; after the body each input buffer at its block and each result at its
    function of the three blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => costOut (F := F) (iblk m c 0 t) (iblk m c 1 t) (iblk m c 2 t)
    | ⟨4, _⟩ => flagOut (F := F) (iblk m c 0 t) (iblk m c 1 t) (iblk m c 2 t)
    | ⟨5, _⟩ => mapOut (F := F) (iblk m c 0 t) (iblk m c 1 t) (iblk m c 2 t)
  Φ _ := Pipeline.ΦA spec0 c
  q _ := fullShare
  owed _ := 0

/-- Each array starts as the launch finds it. -/
theorem dats_A (c : Dev nD) (w : Fin cfg0.W) : (dats m 0 c).A w = V m c (Pipeline.arrRef spec0 w) := by
  dsimp only [dats]

/-- The body leaves the queries as they are. -/
theorem after_0 (c : Dev nD) (t : Fin cfg0.N) : (dats m 0 c).after 0 t = iblk m c 0 t := by dsimp only [dats]
/-- The body leaves the keys as they are. -/
theorem after_1 (c : Dev nD) (t : Fin cfg0.N) : (dats m 0 c).after 1 t = iblk m c 1 t := by dsimp only [dats]
/-- The body leaves the values as they are. -/
theorem after_2 (c : Dev nD) (t : Fin cfg0.N) : (dats m 0 c).after 2 t = iblk m c 2 t := by dsimp only [dats]
/-- The body leaves the costs in the fourth window. -/
theorem after_3 (c : Dev nD) (t : Fin cfg0.N) :
    (dats m 0 c).after 3 t = costOut (F := F) (iblk m c 0 t) (iblk m c 1 t) (iblk m c 2 t) := by dsimp only [dats]
/-- The body leaves the update flags in the fifth window. -/
theorem after_4 (c : Dev nD) (t : Fin cfg0.N) :
    (dats m 0 c).after 4 t = flagOut (F := F) (iblk m c 0 t) (iblk m c 1 t) (iblk m c 2 t) := by dsimp only [dats]
/-- The body leaves the map in the sixth window. -/
theorem after_5 (c : Dev nD) (t : Fin cfg0.N) :
    (dats m 0 c).after 5 t = mapOut (F := F) (iblk m c 0 t) (iblk m c 1 t) (iblk m c 2 t) := by dsimp only [dats]

/-- The body finds the queries in the first window. -/
theorem before_0 (c : Dev nD) (t : Fin cfg0.N) (d) : (dats m 0 c).before 0 t d = iblk m c 0 t :=
  before0_0_of m (dats m 0 c) (dats_A m c 0) (after_0 m c) t d
/-- The body finds the keys in the second window. -/
theorem before_1 (c : Dev nD) (t : Fin cfg0.N) (d) : (dats m 0 c).before 1 t d = iblk m c 1 t :=
  before0_1_of m (dats m 0 c) (dats_A m c 1) (after_1 m c) t d
/-- The body finds the values in the third window. -/
theorem before_2 (c : Dev nD) (t : Fin cfg0.N) (d) : (dats m 0 c).before 2 t d = iblk m c 2 t :=
  before0_2_of m (dats m 0 c) (dats_A m c 2) (after_2 m c) t d

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at a point: the input buffers hold their blocks, so `body_run` applies; the rest passes through. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply ((body_run c _ _ _ _ _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The procedure that the pipeline calls is the kernel's body. -/
theorem body_row (t : Fin cfg0.N) :
    defs₀ (F := F) .tc cfg0.body (cfg0.bodyArgs t (cfg0.slots t)) = bodyAt0 t := by
  unfold defs₀; rw [Defs.onTc_tc]

/-- The pipeline's obligation on its body. -/
theorem body_obligation (c : Dev nD) : BodyObligation (dats (F := F) m 0 c) (defs₀ (F := F)) Variants.none () Set.univ := fun t => by
  rw [bigSep_W0, bigSep_W0, body_row]
  exact triple_restated (body_sound m c t) rfl .rfl fun _ => .rfl

/-! ## The run -/

set_option backward.isDefEq.respectTransparency.types false in
set_option maxHeartbeats 800000 in
/-- The whole program runs to its end from any memory: the pipeline's arrays as the proof data compute them, every other buffer as the
    lines after the region leave it, every semaphore at zero. -/
theorem run : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := fun r => Pipeline.FramePost cfgs (dats m) 0 (Pipeline.afterTail₀ cfgs (dats m) 0 (V0 m) [hostOps1]) r ∧ r.2.sem = fun _ => 0)
    cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := dats_A m) (hΦ := fun _ _ => rfl)

/-- THE FRAME: every execution from zero counters terminates with the three arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (dats_A m) ((θ_run defs _ _).mono (fun _ h => h.1) (run m ρ)))
    ((θ_run defs _ _).mono (fun _ h => h.2) (run m ρ))

end Cert.KernelIdeal.Lv

end
-- ==== Proof.Math.lean ====
module
public import Idealize.ShloMosaic.Lib.Pointwise

/-! The recurrence both programs run, in real arithmetic: four running second-moment matrices, the
two weights of the greedy rank-one step, and the cost after it. The identities at the end are what
lets the cost be read off five numbers instead of off the new map. -/

@[expose] public section

namespace Cert.Lv

/-- A row of 128 reals. -/
abbrev Row := Fin 128 → ℝ
/-- A 128 by 128 matrix of reals. -/
abbrev Mat := Fin 128 → Fin 128 → ℝ

/-- The running mean of the products `a ⊗ b` after the observation numbered `n` (from 0). -/
noncomputable def mix (n : ℕ) (M : Mat) (a b : Row) : Mat := fun i j =>
  (((n : ℝ) + 1) - 1) / ((n : ℝ) + 1) * M i j + a i * b j / ((n : ℝ) + 1)

/-- The outer product. -/
def outer (a b : Row) : Mat := fun i j => a i * b j

/-- The trace of the product of two matrices. -/
noncomputable def tr2 (A B : Mat) : ℝ := ∑ i, ∑ j, A i j * B j i

/-- The trace of `A S Bᵀ`. -/
noncomputable def quad (S A B : Mat) : ℝ := ∑ i, ∑ j, (∑ l, A i l * S l j) * B i j

/-- A divisor made safe: one at the first observation and in place of zero. -/
noncomputable def safe (n : ℕ) (x : ℝ) : ℝ := if n = 0 ∨ x = 0 then 1 else x

/-- A safe divisor is not zero. -/
theorem safe_ne_zero (n : ℕ) (x : ℝ) : safe n x ≠ 0 := by
  unfold safe; split_ifs with h
  · exact one_ne_zero
  · exact fun hx => h (.inr hx)

/-- What the old map leaves of the new observation: positive exactly when the map is to change. -/
noncomputable def margin (n : ℕ) (sJ sl aJJ aJl : ℝ) : ℝ := sl - aJl * (sJ / safe n aJJ)

/-- The unconstrained weight of the old map. -/
noncomputable def freeF (n : ℕ) (sJ sl aJJ aJl all : ℝ) : ℝ :=
  (all * sJ - aJl * sl) / safe n (aJJ * all - aJl * aJl)

/-- The unconstrained weight of the new outer product. -/
noncomputable def freeI (n : ℕ) (sJ sl aJJ aJl all : ℝ) : ℝ :=
  (aJJ * sl - aJl * sJ) / safe n (aJJ * all - aJl * aJl)

/-- The old map's weight when the map changes. -/
noncomputable def stepF (n : ℕ) (sJ sl aJJ aJl all : ℝ) : ℝ :=
  if freeI n sJ sl aJJ aJl all ≤ 0 then sJ / safe n aJJ
  else if freeF n sJ sl aJJ aJl all ≤ 0 then 0 else freeF n sJ sl aJJ aJl all

/-- The outer product's weight when the map changes. -/
noncomputable def stepI (n : ℕ) (sJ sl aJJ aJl all : ℝ) : ℝ :=
  if freeI n sJ sl aJJ aJl all ≤ 0 then 0
  else if freeF n sJ sl aJJ aJl all ≤ 0 then sl / safe n all else freeI n sJ sl aJJ aJl all

/-- The old map's weight. -/
noncomputable def wF (n : ℕ) (sJ sl aJJ aJl all : ℝ) : ℝ :=
  if n = 0 then 0 else if 0 < margin n sJ sl aJJ aJl then stepF n sJ sl aJJ aJl all else 1

/-- The outer product's weight. -/
noncomputable def wI (n : ℕ) (sJ sl aJJ aJl all : ℝ) : ℝ :=
  if n = 0 then 1 else if 0 < margin n sJ sl aJJ aJl then stepI n sJ sl aJJ aJl all else 0

/-- What is carried from one observation to the next: the map and the three second moments. -/
structure St where
  /-- The map. -/
  J : Mat
  /-- The queries' second moments. -/
  qq : Mat
  /-- The queries' and values' second moments. -/
  qv : Mat
  /-- The values' second moments. -/
  vv : Mat

/-- The moments after one observation, the map still the old one. -/
noncomputable def St.observe (n : ℕ) (q v : Row) (s : St) : St :=
  ⟨s.J, mix n s.qq q q, mix n s.qv q v, mix n s.vv v v⟩

/-- The old map's weight after one observation's moments are in. -/
noncomputable def St.wF (n : ℕ) (k v : Row) (s : St) : ℝ :=
  Lv.wF n (tr2 s.J s.qv) (tr2 (outer v k) s.qv) (quad s.qq s.J s.J) (quad s.qq s.J (outer v k))
    (quad s.qq (outer v k) (outer v k))

/-- The outer product's weight after one observation's moments are in. -/
noncomputable def St.wI (n : ℕ) (k v : Row) (s : St) : ℝ :=
  Lv.wI n (tr2 s.J s.qv) (tr2 (outer v k) s.qv) (quad s.qq s.J s.J) (quad s.qq s.J (outer v k))
    (quad s.qq (outer v k) (outer v k))

/-- The new map. -/
noncomputable def St.newJ (n : ℕ) (k v : Row) (s : St) : Mat := fun i j =>
  s.wF n k v * s.J i j + s.wI n k v * outer v k i j

/-- Whether the map changes. -/
abbrev St.upd (n : ℕ) (k v : Row) (s : St) : Prop :=
  n = 0 ∨ 0 < margin n (tr2 s.J s.qv) (tr2 (outer v k) s.qv) (quad s.qq s.J s.J)
    (quad s.qq s.J (outer v k))

/-- The cost of a map under the carried moments. -/
noncomputable def St.costOf (s : St) (J : Mat) : ℝ :=
  1 / 2 * (∑ i, s.vv i i) - tr2 J s.qv + 1 / 2 * quad s.qq J J

/-- One observation. -/
noncomputable def St.next (n : ℕ) (q k v : Row) (s : St) : St :=
  ⟨(s.observe n q v).newJ n k v, mix n s.qq q q, mix n s.qv q v, mix n s.vv v v⟩

/-- The cost after one observation. -/
noncomputable def St.cost (n : ℕ) (q k v : Row) (s : St) : ℝ :=
  (s.observe n q v).costOf ((s.observe n q v).newJ n k v)

/-- The state after the first `n` observations. -/
noncomputable def stAt (q k v : ℕ → Row) : ℕ → St
  | 0 => ⟨fun _ _ => 0, fun _ _ => 0, fun _ _ => 0, fun _ _ => 0⟩
  | n + 1 => (stAt q k v n).next n (q n) (k n) (v n)

/-- The queries' second moments stay symmetric. -/
theorem mix_symm {n : ℕ} {M : Mat} (h : ∀ i j, M i j = M j i) (a : Row) (i j : Fin 128) :
    mix n M a a i j = mix n M a a j i := by
  unfold mix; rw [h i j, mul_comm (a i)]

/-- The queries' second moments are symmetric at every observation. -/
theorem stAt_symm (q k v : ℕ → Row) (n : ℕ) : ∀ i j, (stAt q k v n).qq i j = (stAt q k v n).qq j i := by
  induction n with
  | zero => intro i j; rfl
  | succ n ih => exact mix_symm ih (q n)

/-- The trace form is linear in its left argument. -/
theorem tr2_comb (a b : ℝ) (A B S : Mat) :
    tr2 (fun i j => a * A i j + b * B i j) S = a * tr2 A S + b * tr2 B S := by
  simp only [tr2, add_mul, Finset.sum_add_distrib, mul_assoc, Finset.mul_sum]

/-- The quadratic form is linear in its left argument. -/
theorem quad_comb_left (a b : ℝ) (S A B C : Mat) :
    quad S (fun i j => a * A i j + b * B i j) C = a * quad S A C + b * quad S B C := by
  simp only [quad, add_mul, Finset.sum_add_distrib, mul_assoc, ← Finset.mul_sum]

/-- The quadratic form is linear in its right argument. -/
theorem quad_comb_right (a b : ℝ) (S A B C : Mat) :
    quad S C (fun i j => a * A i j + b * B i j) = a * quad S C A + b * quad S C B := by
  simp only [quad, mul_add, Finset.sum_add_distrib, Finset.mul_sum]
  congr 1 <;> refine Finset.sum_congr rfl fun i _ => Finset.sum_congr rfl fun j _ => ?_ <;> ring

/-- Under a symmetric matrix the quadratic form is symmetric. -/
theorem quad_symm {S : Mat} (h : ∀ i j, S i j = S j i) (A B : Mat) : quad S A B = quad S B A := by
  simp only [quad, Finset.sum_mul]
  refine Finset.sum_congr rfl fun i _ => ?_
  rw [Finset.sum_comm]
  refine Finset.sum_congr rfl fun l _ => Finset.sum_congr rfl fun j _ => ?_
  rw [h l j]; ring

/-- The quadratic form of a combination, by the three forms of its parts. -/
theorem quad_comb {S : Mat} (h : ∀ i j, S i j = S j i) (a b : ℝ) (A B : Mat) :
    quad S (fun i j => a * A i j + b * B i j) (fun i j => a * A i j + b * B i j)
      = a * a * quad S A A + 2 * a * b * quad S A B + b * b * quad S B B := by
  rw [quad_comb_left, quad_comb_right, quad_comb_right, quad_symm h B A]; ring

/-- The cost of a combination of two maps, by five numbers. -/
theorem costOf_comb (s : St) (h : ∀ i j, s.qq i j = s.qq j i) (a b : ℝ) (A B : Mat) :
    s.costOf (fun i j => a * A i j + b * B i j)
      = 1 / 2 * (∑ i, s.vv i i) - (a * tr2 A s.qv + b * tr2 B s.qv)
        + 1 / 2 * (a * a * quad s.qq A A + 2 * a * b * quad s.qq A B + b * b * quad s.qq B B) := by
  rw [St.costOf, tr2_comb, quad_comb h]

/-- The trace of the moments is the running mean of the squared lengths. -/
theorem mix_trace (n : ℕ) (M : Mat) (a : Row) :
    (∑ i, mix n M a a i i)
      = (((n : ℝ) + 1) - 1) / ((n : ℝ) + 1) * (∑ i, M i i) + (∑ i, a i * a i) / ((n : ℝ) + 1) := by
  simp only [mix, Finset.sum_add_distrib, Finset.mul_sum, Finset.sum_div]

/-- The outer product's trace form, contracted one side at a time. -/
theorem tr2_outer (S : Mat) (k v : Row) :
    tr2 (outer v k) S = ∑ j, (∑ i, k i * S i j) * v j := by
  simp only [tr2, outer, Finset.sum_mul]
  refine Finset.sum_congr rfl fun i _ => Finset.sum_congr rfl fun j _ => ?_
  ring

/-- The mixed form of a map and the outer product, contracted one side at a time. -/
theorem quad_outer_right (S J : Mat) (k v : Row) :
    quad S J (outer v k) = ∑ j, (∑ l, (∑ i, v i * J i l) * S l j) * k j := by
  simp only [quad, outer, Finset.sum_mul]
  rw [Finset.sum_comm]
  refine Finset.sum_congr rfl fun j _ => ?_
  rw [Finset.sum_comm]
  refine Finset.sum_congr rfl fun l _ => Finset.sum_congr rfl fun i _ => ?_
  ring

/-- The outer product's quadratic form is a product of two quadratic forms. -/
theorem quad_outer (S : Mat) (k v : Row) :
    quad S (outer v k) (outer v k) = (∑ i, v i * v i) * (∑ j, (∑ l, k l * S l j) * k j) := by
  rw [Finset.sum_mul]
  simp only [quad, outer]
  refine Finset.sum_congr rfl fun i _ => ?_
  rw [Finset.mul_sum]
  refine Finset.sum_congr rfl fun j _ => ?_
  simp only [Finset.sum_mul, Finset.mul_sum]
  refine Finset.sum_congr rfl fun l _ => ?_
  ring

/-- The new map by cases: the outer product at first, the weighted sum when it changes, the old map
otherwise. -/
theorem newJ_cases (n : ℕ) (k v : Row) (s : St) (i j : Fin 128) :
    s.newJ n k v i j = if n = 0 then outer v k i j
      else if 0 < margin n (tr2 s.J s.qv) (tr2 (outer v k) s.qv) (quad s.qq s.J s.J)
          (quad s.qq s.J (outer v k)) then
        stepF n (tr2 s.J s.qv) (tr2 (outer v k) s.qv) (quad s.qq s.J s.J)
            (quad s.qq s.J (outer v k)) (quad s.qq (outer v k) (outer v k)) * s.J i j
          + stepI n (tr2 s.J s.qv) (tr2 (outer v k) s.qv) (quad s.qq s.J s.J)
            (quad s.qq s.J (outer v k)) (quad s.qq (outer v k) (outer v k)) * outer v k i j
      else s.J i j := by
  simp only [St.newJ, St.wF, St.wI, Lv.wF, Lv.wI]
  split_ifs <;> simp

end Cert.Lv
-- ==== Proof.Coe.lean ====
module
public import Idealize.ShloMosaic.Lib.Pointwise
public import proofs.«01_k».proof.Proof.Math

/-! Real numbers inside the ideal ones: sums, quotients and choices of finite values are the finite
values of the sums, quotients and choices. -/

@[expose] public section

namespace Cert.Lv

open Idealize.ShloMosaic

/-- A sum of finite values is the finite value of the sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient of finite values by a nonzero one is the finite value of the quotient. -/
theorem coe_div {x y : ℝ} (h : y ≠ 0) : Ideal.div (x : EReal) (y : EReal) = ((x / y : ℝ) : EReal) := by
  rw [Ideal.div_coe h, ← EReal.coe_mul, mul_one_div]

/-- A choice between finite values is the finite value of the choice. -/
theorem coe_ite (p : Prop) [Decidable p] (x y : ℝ) :
    (if p then (x : EReal) else (y : EReal)) = ((if p then x else y : ℝ) : EReal) := by
  split_ifs <;> rfl

/-- The word of a truth value. -/
def bit (p : Prop) [Decidable p] : BitVec 1 := BitVec.ofBool (decide p)

/-- A word chosen on is its truth value chosen on. -/
theorem select_bit {α : Type} (p : Prop) [Decidable p] (x y : α) :
    Scalar.select (bit p) x y = if p then x else y := by
  unfold Scalar.select bit; by_cases h : p <;> simp [h]

/-- The word of a disjunction. -/
theorem or_bit (p q : Prop) [Decidable p] [Decidable q] :
    IntOp.ori (bit p) (bit q) = bit (p ∨ q) := by
  unfold bit; by_cases hp : p <;> by_cases hq : q <;> simp [hp, hq, IntOp.ori]

/-- Equal truth values have equal words. -/
theorem bit_congr {p q : Prop} [Decidable p] [Decidable q] (h : p ↔ q) : bit p = bit q := by
  unfold bit; simp [h]

/-- Comparing two small numbers as words. -/
theorem cmpi_eq_ofNat {m n : ℕ} (hm : m < 2 ^ 31) (hn : n < 2 ^ 31) :
    IntOp.cmpi .eq (BitVec.ofNat 32 m) (BitVec.ofNat 32 n) = bit (m = n) := by
  refine bit_congr ⟨fun h => ?_, fun h => by rw [h]⟩
  have := congrArg BitVec.toNat h
  simp only [BitVec.toNat_ofNat] at this
  omega

/-- The word 0x3F000000 is a half. -/
theorem ofBits_half : Ideal.ofBits .f32 0x3F000000#32 = ((1 / 2 : ℝ) : EReal) := by
  simp [Ideal.ofBits, Ideal.ieee, -EReal.coe_mul]; norm_num

/-- The word 0x40000000 is two. -/
theorem ofBits_two : Ideal.ofBits .f32 0x40000000#32 = ((2 : ℝ) : EReal) := by
  simp [Ideal.ofBits, Ideal.ieee, -EReal.coe_mul]; norm_num

/-- The number of an observation, from one, is not zero. -/
theorem count_ne_zero (n : ℕ) : (n : ℝ) + 1 ≠ 0 := by positivity

/-- A finite value is zero exactly when its real is. -/
theorem coe_eq_zero' {x : ℝ} : ((x : EReal) = 0) ↔ x = 0 := EReal.coe_eq_zero

end Cert.Lv
-- ==== Proof.KernelScalars.lean ====
/- What each intermediate value of one inner trip is, when the values it is read from are finite. -/
module
public import proofs.«01_k».proof.Proof.Coe
public import proofs.«01_k».proof.Proof.KernelIdealLoop

@[expose] public section
set_option maxRecDepth 16384

noncomputable section

namespace Cert.KernelIdeal.Lv
open Idealize.ShloMosaic Idealize.ShloMosaic.TcCoe Idealize.ShloMosaic.Tactic Cert.KernelIdeal.Gen Cert.Lv

/-- A real matrix as an array of finite values. -/
def cm (M : Mat) : FVec Ideal S128x128 .f32 := fun p => ((M (p 0) (p 1) : ℝ) : EReal)
/-- A real row as an array of finite values. -/
def cr (r : Row) : FVec Ideal S1x128 .f32 := fun p => ((r (p 1) : ℝ) : EReal)
/-- A real number as an array of one finite value. -/
def c1 (x : ℝ) : FVec Ideal S1x1 .f32 := fun _ => (x : EReal)
/-- A truth value as an array of one bit. -/
def b1 (p : Prop) [Decidable p] : IVec S1x1 1 := fun _ => bit p

/-- The transposed matrix. -/
def tr (M : Mat) : Mat := fun i j => M j i

/-- The inner loop's counter as a word. -/
theorem iv_eq (j : ℕ) : Scf.iv 0#32 1#32 j = BitVec.ofNat 32 j := by
  simp [Scf.iv]

/-- The observation's number, as the kernel computes it. -/
theorem num_eq (i j : ℕ) :
    Scalar.addi (Scalar.muli (Scf.iv 0#32 1#32 i) 128#32) (Scf.iv 0#32 1#32 j) = BitVec.ofNat 32 (128 * i + j) := by
  rw [iv_eq, iv_eq]
  change BitVec.ofNat 32 i * BitVec.ofNat 32 128 + BitVec.ofNat 32 j = _
  rw [← BitVec.ofNat_mul, ← BitVec.ofNat_add, Nat.mul_comm]

/-- Whether the observation is the first, as a bit. -/
theorem first_coe {t : BitVec 32} {n : ℕ} (ht : t = BitVec.ofNat 32 n) (hn : n < 2048) :
    Scalar.cmpi .eq t 0#32 = bit (n = 0) := by
  subst ht
  exact cmpi_eq_ofNat (by omega) (by omega)

section Moments

variable {w : BitVec 32} {j : Fin k0_t2_loop.trips} {n : ℕ}

/-- The count of observations so far. -/
theorem pay12_coe (ht : Scalar.addi (Scalar.muli w 128#32) (Scf.iv 0#32 1#32 j) = BitVec.ofNat 32 n) (hn : n < 2048) :
    k0_pay12 (F := Ideal) w 0#32 1#32 j = (((n : ℝ) + 1 : ℝ) : EReal) := by
  pointwise [k0_pay12]
  rw [ht]
  have : (Scalar.addi (BitVec.ofNat 32 n) 1#32).toInt = (n : ℤ) + 1 := by
    change (BitVec.ofNat 32 n + BitVec.ofNat 32 1).toInt = _
    rw [← BitVec.ofNat_add, BitVec.toInt_eq_toNat_of_lt (by rw [BitVec.toNat_ofNat]; omega), BitVec.toNat_ofNat]
    omega
  rw [this]; push_cast; rfl

/-- The weight of the moments so far. -/
theorem pay13_coe (ht : Scalar.addi (Scalar.muli w 128#32) (Scf.iv 0#32 1#32 j) = BitVec.ofNat 32 n) (hn : n < 2048) :
    k0_pay13 (F := Ideal) w 0#32 1#32 j = (((((n : ℝ) + 1) - 1) / ((n : ℝ) + 1) : ℝ) : EReal) := by
  pointwise [k0_pay13, pay12_coe ht hn]
  rw [← coe_div (count_ne_zero n), EReal.coe_sub]; rfl

/-- The queries' second moments. -/
theorem pay15_coe (ht : Scalar.addi (Scalar.muli w 128#32) (Scf.iv 0#32 1#32 j) = BitVec.ofNat 32 n) (hn : n < 2048)
    (M : Mat) (q : Row) : k0_pay15 (F := Ideal) w 0#32 1#32 j (cm M) (cr q) = cm (mix n M q q) := by
  funext p
  pointwise [k0_pay15, cm, cr, pay12_coe ht hn, pay13_coe ht hn]
  rw [← EReal.coe_mul, ← EReal.coe_mul, coe_div (count_ne_zero n), ← EReal.coe_add]; rfl

/-- The queries' and values' second moments, held transposed. -/
theorem pay16_coe (ht : Scalar.addi (Scalar.muli w 128#32) (Scf.iv 0#32 1#32 j) = BitVec.ofNat 32 n) (hn : n < 2048)
    (M : Mat) (q v : Row) : k0_pay16 (F := Ideal) w 0#32 1#32 j (cm (tr M)) (cr q) (cr v) = cm (tr (mix n M q v)) := by
  funext p
  pointwise [k0_pay16, k0_pay14, cm, cr, pay12_coe ht hn, pay13_coe ht hn]
  rw [← EReal.coe_mul, ← EReal.coe_mul, coe_div (count_ne_zero n), ← EReal.coe_add]
  change _ = ((_ * M (p 1) (p 0) + q (p 1) * v (p 0) / _ : ℝ) : EReal)
  rw [mul_comm (q (p 1))]; rfl

/-- The value row's squared length. -/
theorem pay17_coe (v : Row) : k0_pay17 (F := Ideal) (cr v) = c1 (∑ i, v i * v i) := by
  funext p
  pointwise [k0_pay17, cr, c1]
  simp only [Fin.sum_univ_one, ← EReal.coe_mul, coe_sum]

/-- The values' mean squared length. -/
theorem pay18_coe (ht : Scalar.addi (Scalar.muli w 128#32) (Scf.iv 0#32 1#32 j) = BitVec.ofNat 32 n) (hn : n < 2048)
    (M : Mat) (v : Row) :
    k0_pay18 (F := Ideal) w 0#32 1#32 j (c1 (∑ i, M i i)) (cr v) = c1 (∑ i, mix n M v v i i) := by
  funext p
  pointwise [k0_pay18, c1, pay17_coe, pay12_coe ht hn, pay13_coe ht hn]
  rw [coe_div (count_ne_zero n), ← EReal.coe_mul, ← EReal.coe_add, mix_trace]

/-- The map times the queries' second moments. -/
theorem pay19_coe (ht : Scalar.addi (Scalar.muli w 128#32) (Scf.iv 0#32 1#32 j) = BitVec.ofNat 32 n) (hn : n < 2048)
    (J M : Mat) (q : Row) : k0_pay19 (F := Ideal) w 0#32 1#32 j (cm J) (cm M) (cr q)
      = cm (fun a b => ∑ l, J a l * mix n M q q l b) := by
  funext p
  pointwise [k0_pay19, cm, pay15_coe ht hn]
  simp only [← EReal.coe_mul, coe_sum]

/-- The key row times the queries' second moments. -/
theorem pay20_coe (ht : Scalar.addi (Scalar.muli w 128#32) (Scf.iv 0#32 1#32 j) = BitVec.ofNat 32 n) (hn : n < 2048)
    (M : Mat) (q k : Row) : k0_pay20 (F := Ideal) w 0#32 1#32 j (cm M) (cr q) (cr k)
      = cr (fun b => ∑ l, k l * mix n M q q l b) := by
  funext p
  pointwise [k0_pay20, cm, cr, pay15_coe ht hn]
  simp only [← EReal.coe_mul, coe_sum]

/-- The outer product of the value and key rows. -/
theorem pay21_coe (k v : Row) : k0_pay21 (F := Ideal) (cr k) (cr v) = cm (outer v k) := by
  funext p
  pointwise [k0_pay21, k0_pay14, cm, cr]
  rw [← EReal.coe_mul]; rfl

/-- The old map against the queries' and values' moments. -/
theorem pay22_coe (ht : Scalar.addi (Scalar.muli w 128#32) (Scf.iv 0#32 1#32 j) = BitVec.ofNat 32 n) (hn : n < 2048)
    (J M : Mat) (q v : Row) :
    k0_pay23 (k0_pay22 (F := Ideal) w 0#32 1#32 j (cm J) (cm (tr M)) (cr q) (cr v)) = c1 (tr2 J (mix n M q v)) := by
  funext p
  pointwise [k0_pay23, k0_pay22, cm, c1, pay16_coe ht hn]
  simp only [← EReal.coe_mul, coe_sum]; rfl

/-- The outer product against the queries' and values' moments. -/
theorem pay24_coe (S A : Mat) : k0_pay24 (F := Ideal) (cm (tr S)) (cm A) = c1 (tr2 A S) := by
  funext p
  pointwise [k0_pay24, cm, c1]
  simp only [← EReal.coe_mul, coe_sum, mul_comm (tr S _ _)]; rfl

/-- The old map's quadratic form. -/
theorem pay25_coe (J S : Mat) :
    k0_pay25 (F := Ideal) (cm J) (cm (fun a b => ∑ l, J a l * S l b)) = c1 (quad S J J) := by
  funext p
  pointwise [k0_pay25, cm, c1]
  simp only [← EReal.coe_mul, coe_sum]; rfl

/-- The mixed form of the old map and the outer product. -/
theorem pay26_coe (J S A : Mat) :
    k0_pay26 (F := Ideal) (cm (fun a b => ∑ l, J a l * S l b)) (cm A) = c1 (quad S J A) := by
  funext p
  pointwise [k0_pay26, cm, c1]
  simp only [← EReal.coe_mul, coe_sum]; rfl

/-- The outer product's quadratic form. -/
theorem pay27_coe (S : Mat) (k v : Row) :
    k0_pay27 (F := Ideal) (cr k) (c1 (∑ i, v i * v i)) (cr (fun b => ∑ l, k l * S l b))
      = c1 (quad S (outer v k) (outer v k)) := by
  funext p
  pointwise [k0_pay27, cr, c1]
  simp only [Fin.sum_univ_one, ← EReal.coe_mul, coe_sum, quad_outer]

end Moments

section Weights

variable {t : BitVec 32} {n : ℕ}

/-- A choice of one over a finite value, made on the first observation or on zero, is the safe divisor. -/
theorem select_safe (n : ℕ) (x : ℝ) :
    Scalar.select (IntOp.ori (bit (n = 0)) (BitVec.ofBool (decide ((x : EReal) = 0)))) (1 : EReal) (x : EReal) = ((safe n x : ℝ) : EReal) := by
  change Scalar.select (IntOp.ori (bit (n = 0)) (bit ((x : EReal) = 0))) _ _ = _
  rw [or_bit, select_bit, safe]
  simp only [coe_eq_zero']
  split_ifs <;> simp

/-- The old map's quadratic form, made safe to divide by. -/
theorem pay28_coe (ht : t = BitVec.ofNat 32 n) (hn : n < 2048) {J JS : FVec Ideal S128x128 .f32} {aJJ : ℝ}
    (h : k0_pay25 J JS = c1 aJJ) : k0_pay28 (F := Ideal) J t JS = c1 (safe n aJJ) := by
  funext p
  pointwise [k0_pay28, h, c1, first_coe ht hn]
  exact select_safe n aJJ

/-- The outer product's quadratic form, made safe to divide by. -/
theorem pay29_coe (ht : t = BitVec.ofNat 32 n) (hn : n < 2048) {k kS : FVec Ideal S1x128 .f32} {vv : FVec Ideal S1x1 .f32}
    {all : ℝ} (h : k0_pay27 k vv kS = c1 all) : k0_pay29 (F := Ideal) t k vv kS = c1 (safe n all) := by
  funext p
  pointwise [k0_pay29, h, c1, first_coe ht hn]
  exact select_safe n all

/-- The determinant of the two-weight problem. -/
theorem pay30_coe {J JS A : FVec Ideal S128x128 .f32} {k kS : FVec Ideal S1x128 .f32} {vv : FVec Ideal S1x1 .f32}
    {aJJ aJl all : ℝ} (hJ : k0_pay25 J JS = c1 aJJ) (hl : k0_pay27 k vv kS = c1 all) (hm : k0_pay26 JS A = c1 aJl) :
    k0_pay30 (F := Ideal) J k vv JS kS A = c1 (aJJ * all - aJl * aJl) := by
  funext p
  pointwise [k0_pay30, hJ, hl, hm, c1]
  simp only [← EReal.coe_mul, ← EReal.coe_sub]

/-- The determinant, made safe to divide by. -/
theorem pay33_coe (ht : t = BitVec.ofNat 32 n) (hn : n < 2048) {J JS A : FVec Ideal S128x128 .f32}
    {k kS : FVec Ideal S1x128 .f32} {vv : FVec Ideal S1x1 .f32} {d : ℝ} (h : k0_pay30 J k vv JS kS A = c1 d) :
    k0_pay33 (F := Ideal) (c1 d) (k0_pay31 J t k vv JS kS A) k0_pay32 = c1 (safe n d) := by
  funext p
  pointwise [k0_pay33, k0_pay31, k0_pay32, h, c1, first_coe ht hn]
  exact select_safe n d

variable (sJ sl aJJ aJl all : ℝ) {b : IVec S1x1 1} {r : FVec Ideal S1x1 .f32}

/-- The old map's unconstrained weight. -/
theorem pay34_coe (n : ℕ) (h : k0_pay33 (c1 (aJJ * all - aJl * aJl)) b r = c1 (safe n (aJJ * all - aJl * aJl))) :
    k0_pay34 (F := Ideal) (c1 sJ) (c1 sl) (c1 aJl) (c1 all) (c1 (aJJ * all - aJl * aJl)) b r = c1 (freeF n sJ sl aJJ aJl all) := by
  funext p
  pointwise [k0_pay34, h, c1]
  rw [← EReal.coe_mul, ← EReal.coe_mul, ← EReal.coe_sub, coe_div (safe_ne_zero _ _)]; rfl

/-- The outer product's unconstrained weight. -/
theorem pay35_coe (n : ℕ) (h : k0_pay33 (c1 (aJJ * all - aJl * aJl)) b r = c1 (safe n (aJJ * all - aJl * aJl))) :
    k0_pay35 (F := Ideal) (c1 sJ) (c1 sl) (c1 aJJ) (c1 aJl) (c1 (aJJ * all - aJl * aJl)) b r = c1 (freeI n sJ sl aJJ aJl all) := by
  funext p
  pointwise [k0_pay35, h, c1]
  rw [← EReal.coe_mul, ← EReal.coe_mul, ← EReal.coe_sub, coe_div (safe_ne_zero _ _)]; rfl

/-- Whether the map changes. -/
theorem pay36_coe (n : ℕ) :
    k0_pay36 (F := Ideal) (c1 sJ) (c1 sl) (c1 aJl) (c1 (safe n aJJ)) = b1 (0 < margin n sJ sl aJJ aJl) := by
  funext p
  pointwise [k0_pay36, c1]
  rw [coe_div (safe_ne_zero _ _), ← EReal.coe_mul, ← EReal.coe_sub]
  exact bit_congr EReal.coe_pos

/-- The old map's weight. -/
theorem pay37_coe (n : ℕ) (h : k0_pay33 (c1 (aJJ * all - aJl * aJl)) b r = c1 (safe n (aJJ * all - aJl * aJl))) :
    k0_pay37 (F := Ideal) (c1 sJ) (c1 sl) (c1 aJJ) (c1 aJl) (c1 all) (bit (n = 0)) (c1 (safe n aJJ))
      (c1 (aJJ * all - aJl * aJl)) b r = c1 (wF n sJ sl aJJ aJl all) := by
  funext p
  pointwise [k0_pay37, pay34_coe sJ sl aJJ aJl all n h, pay35_coe sJ sl aJJ aJl all n h, pay36_coe, c1, b1]
  rw [coe_div (safe_ne_zero _ _), select_bit, select_bit, wF, stepF]
  simp only [EReal.coe_nonpos]
  split_ifs <;> simp

/-- The outer product's weight. -/
theorem pay38_coe (n : ℕ) (h : k0_pay33 (c1 (aJJ * all - aJl * aJl)) b r = c1 (safe n (aJJ * all - aJl * aJl))) :
    k0_pay38 (F := Ideal) (c1 sJ) (c1 sl) (c1 aJJ) (c1 aJl) (c1 all) (bit (n = 0)) (c1 (safe n aJJ)) (c1 (safe n all))
      (c1 (aJJ * all - aJl * aJl)) b r = c1 (wI n sJ sl aJJ aJl all) := by
  funext p
  pointwise [k0_pay38, pay34_coe sJ sl aJJ aJl all n h, pay35_coe sJ sl aJJ aJl all n h, pay36_coe, c1, b1]
  rw [coe_div (safe_ne_zero _ _), select_bit, select_bit, wI, stepI]
  simp only [EReal.coe_nonpos]
  split_ifs <;> simp

/-- The new map. -/
theorem pay39_coe (n : ℕ) (J A : Mat) (h : k0_pay33 (c1 (aJJ * all - aJl * aJl)) b r = c1 (safe n (aJJ * all - aJl * aJl))) :
    k0_pay39 (F := Ideal) (cm J) (cm A) (c1 sJ) (c1 sl) (c1 aJJ) (c1 aJl) (c1 all) (bit (n = 0)) (c1 (safe n aJJ)) (c1 (safe n all))
      (c1 (aJJ * all - aJl * aJl)) b r
      = cm (fun i j => wF n sJ sl aJJ aJl all * J i j + wI n sJ sl aJJ aJl all * A i j) := by
  funext p
  pointwise [k0_pay39, pay37_coe sJ sl aJJ aJl all n h, pay38_coe sJ sl aJJ aJl all n h, c1, cm]
  rw [← EReal.coe_mul, ← EReal.coe_mul, ← EReal.coe_add]

/-- The new map against the queries' and values' moments. -/
theorem pay41_coe (n : ℕ) (h : k0_pay33 (c1 (aJJ * all - aJl * aJl)) b r = c1 (safe n (aJJ * all - aJl * aJl))) :
    k0_pay41 (F := Ideal) (c1 sJ) (c1 sl) (c1 aJJ) (c1 aJl) (c1 all) (bit (n = 0)) (c1 (safe n aJJ)) (c1 (safe n all))
      (c1 (aJJ * all - aJl * aJl)) b r
      = c1 (wF n sJ sl aJJ aJl all * sJ + wI n sJ sl aJJ aJl all * sl) := by
  funext p
  pointwise [k0_pay41, pay37_coe sJ sl aJJ aJl all n h, pay38_coe sJ sl aJJ aJl all n h, c1]
  rw [← EReal.coe_mul, ← EReal.coe_mul, ← EReal.coe_add]

/-- Half the trace of the values' moments. -/
theorem pay40_coe (x : ℝ) : k0_pay40 (F := Ideal) (c1 x) = c1 (1 / 2 * x) := by
  funext p
  pointwise [k0_pay40, c1]
  rw [ofBits_half, ← EReal.coe_mul]

end Weights

section Rows

/-- The lane a trip writes. -/
theorem pay7_coe (j : Fin k0_t2_loop.trips) (p : S1x128.Idx) :
    k0_pay7 (Scf.iv 0#32 1#32 j) p = bit ((p 1).val = j.val) := by
  pointwise [k0_pay7]
  rw [iv_eq]
  have hj : j.val < 128 := j.isLt
  have hp : (p 1).val < 128 := (p 1).isLt
  exact cmpi_eq_ofNat (by omega) (by omega)

/-- The row of costs with this trip's cost written in its lane. -/
theorem pay8_coe (x : FVec Ideal S1x128 .f32) (j : Fin k0_t2_loop.trips) (aJJ aJl all f i h s : ℝ) :
    k0_pay8 (F := Ideal) x (Scf.iv 0#32 1#32 j) (c1 aJJ) (c1 aJl) (c1 all) (c1 f) (c1 i) (c1 h) (c1 s)
      = fun p => if (p 1).val = j.val then
          ((h - s + 1 / 2 * (f * f * aJJ + 2 * f * i * aJl + i * i * all) : ℝ) : EReal) else x p := by
  funext p
  pointwise [k0_pay8, pay7_coe, c1]
  rw [select_bit, ofBits_half, ofBits_two]
  simp only [← EReal.coe_mul, ← EReal.coe_add, ← EReal.coe_sub]

/-- The row of update flags with this trip's flag written in its lane. -/
theorem pay9_coe (x : FVec Ideal S1x128 .f32) (j : Fin k0_t2_loop.trips) (p q : Prop) [Decidable p] [Decidable q] :
    k0_pay9 (F := Ideal) x (Scf.iv 0#32 1#32 j) (bit p) (b1 q)
      = fun y => if (y 1).val = j.val then (if p ∨ q then 1 else 0) else x y := by
  funext y
  pointwise [k0_pay9, pay7_coe, b1]
  rw [select_bit, or_bit, select_bit]

end Rows

end Cert.KernelIdeal.Lv
-- ==== Proof.KernelValue.lean ====
/- The kernel's loops on finite inputs: one inner trip is one observation of the real recurrence, a block is 128 of
   them, and the three results are the recurrence's costs, its update flags and its last map. -/
module
public import proofs.«01_k».proof.Proof.KernelScalars
public import proofs.«01_k».proof.Proof.KernelIdealRun

@[expose] public section
set_option maxRecDepth 16384

noncomputable section

namespace Cert.KernelIdeal.Lv
open Idealize.ShloMosaic Idealize.ShloMosaic.TcCoe Idealize.ShloMosaic.Tactic Cert.KernelIdeal.Gen Cert.Lv

/-- The state of the recurrence, as the outer loop carries it. -/
def pack (s : St) : Carry Ideal := (cm s.J, cm s.qq, cm (tr s.qv), c1 (∑ i, s.vv i i))

/-- A list of real rows as a [2048, 128] array of finite values. -/
def arr (x : ℕ → Row) : FVec Ideal S2048x128 .f32 := fun p => ((x (p 0).val (p 1) : ℝ) : EReal)

/-- The flag of an observation, as the number that the kernel stores. -/
def flag (n : ℕ) (q k v : Row) (s : St) : EReal := if (s.observe n q v).upd n k v then 1 else 0

/-- One inner trip is one observation. -/
theorem innerStep_coe (i : ℕ) (j : Fin k0_t2_loop.trips) (hn : 128 * i + j.val < 2048) (q k v : Row) (s : St)
    (hs : ∀ a b, s.qq a b = s.qq b a) (x y : FVec Ideal S1x128 .f32) :
    innerStep (F := Ideal) (Scf.iv 0#32 1#32 i) j (cr q) (cr k) (cr v)
        ((pack s).1, (pack s).2.1, (pack s).2.2.1, (pack s).2.2.2, x, y)
      = ((pack (s.next (128 * i + j.val) q k v)).1, (pack (s.next (128 * i + j.val) q k v)).2.1,
          (pack (s.next (128 * i + j.val) q k v)).2.2.1, (pack (s.next (128 * i + j.val) q k v)).2.2.2,
          (fun p => if (p 1).val = j.val then ((s.cost (128 * i + j.val) q k v : ℝ) : EReal) else x p),
          (fun p => if (p 1).val = j.val then flag (128 * i + j.val) q k v s else y p)) := by
  have ht := num_eq i j.val
  generalize 128 * i + j.val = n at ht hn ⊢
  have hl := pay27_coe (mix n s.qq q q) k v
  have hJ := pay25_coe s.J (mix n s.qq q q)
  have hm := pay26_coe s.J (mix n s.qq q q) (outer v k)
  have hd := pay30_coe hJ hl hm
  have h33 := pay33_coe (n := n) rfl hn hd
  simp only [innerStep, pack, pay15_coe ht hn, pay16_coe ht hn, pay17_coe, pay18_coe ht hn, pay19_coe ht hn,
    pay20_coe ht hn, pay21_coe, pay22_coe ht hn, pay24_coe, hJ, hm, hl, ht, first_coe rfl hn, pay28_coe rfl hn hJ,
    pay29_coe rfl hn hl, hd, pay36_coe, pay37_coe _ _ _ _ _ n h33, pay38_coe _ _ _ _ _ n h33,
    pay39_coe _ _ _ _ _ n _ _ h33, pay41_coe _ _ _ _ _ n h33, pay40_coe, pay8_coe, pay9_coe]
  refine Prod.ext rfl (Prod.ext rfl (Prod.ext rfl (Prod.ext rfl (Prod.ext ?_ rfl))))
  have hc : s.cost n q k v = _ := costOf_comb (s.observe n q v) (mix_symm hs q) _ _ s.J (outer v k)
  rw [hc]; rfl

/-- The row an inner trip loads. -/
theorem rowOf_arr (x : ℕ → Row) (i : Fin k0_t1_loop.trips) (j : Fin k0_t2_loop.trips) :
    rowOf (F := Ideal) (arr x) i j = cr (x (128 * i.val + j.val)) := by
  funext p
  unfold rowOf arr cr
  have h0 : (((Rect.unit (s := S2048x128) (k0_off1 i j) S1x128.size (k0_off1_inb i j)).toLoadRect.idx p) 0).val = 128 * i.val + j.val := by
    show k0_off1 i j 0 + 1 * (p 0).val = _
    rw [k0_off1_eq]
    have h : (p 0).val < 1 := (p 0).isLt
    show 128 * i.val + j.val + 1 * (p 0).val = _
    omega
  have h1 : ((Rect.unit (s := S2048x128) (k0_off1 i j) S1x128.size (k0_off1_inb i j)).toLoadRect.idx p) 1 = p 1 := by
    apply Fin.ext
    show k0_off1 i j 1 + 1 * (p 1).val = _
    rw [k0_off1_eq]
    show 0 + 1 * (p 1).val = _
    omega
  rw [h0, h1]

section Loops

variable (q k v : ℕ → Row)

/-- The inner loop before its trip `j` of block `i`: the recurrence after `128 i + j` observations, and the block's
first `j` costs and flags. -/
theorem innerAt_coe (i : Fin k0_t1_loop.trips) (j : ℕ) (hj : j ≤ 128) :
    innerAt (F := Ideal) (arr q) (arr k) (arr v) i (pack (stAt q k v (128 * i.val))) j
      = ((pack (stAt q k v (128 * i.val + j))).1, (pack (stAt q k v (128 * i.val + j))).2.1,
          (pack (stAt q k v (128 * i.val + j))).2.2.1, (pack (stAt q k v (128 * i.val + j))).2.2.2,
          (fun p => if (p 1).val < j then (((stAt q k v (128 * i.val + (p 1).val)).cost (128 * i.val + (p 1).val)
            (q (128 * i.val + (p 1).val)) (k (128 * i.val + (p 1).val)) (v (128 * i.val + (p 1).val)) : ℝ) : EReal) else 0),
          (fun p => if (p 1).val < j then flag (128 * i.val + (p 1).val) (q (128 * i.val + (p 1).val))
            (k (128 * i.val + (p 1).val)) (v (128 * i.val + (p 1).val)) (stAt q k v (128 * i.val + (p 1).val)) else 0)) := by
  induction j with
  | zero =>
    rw [innerAt]
    refine Prod.ext rfl (Prod.ext rfl (Prod.ext rfl (Prod.ext rfl (Prod.ext ?_ ?_))))
    · funext p; pointwise [k0_pay5]; exact (if_neg (Nat.not_lt_zero _)).symm
    · funext p; pointwise [k0_pay6]; exact (if_neg (Nat.not_lt_zero _)).symm
  | succ j ih =>
    have h : j < k0_t2_loop.trips := by rw [trips2]; omega
    have hi : i.val < 16 := lt_of_lt_of_eq i.isLt trips1
    rw [innerAt, dif_pos h, ih (by omega), rowOf_arr, rowOf_arr, rowOf_arr,
      innerStep_coe i.val ⟨j, h⟩ (by show 128 * i.val + j < 2048; omega) _ _ _ _ (stAt_symm q k v _)]
    refine Prod.ext rfl (Prod.ext rfl (Prod.ext rfl (Prod.ext rfl (Prod.ext ?_ ?_))))
    all_goals
      funext p
      dsimp only
      by_cases e : (p 1).val = j
      · rw [if_pos e, if_pos (by omega), e]
      · rw [if_neg e]
        by_cases l : (p 1).val < j
        · rw [if_pos l, if_pos (by omega)]
        · rw [if_neg l, if_neg (by omega)]

/-- The outer loop before block `i`: the recurrence after `128 i` observations. -/
theorem carryAt_coe (i : ℕ) (hi : i ≤ 16) : carryAt (F := Ideal) (arr q) (arr k) (arr v) i = pack (stAt q k v (128 * i)) := by
  induction i with
  | zero =>
    rw [carryAt]
    refine Prod.ext ?_ (Prod.ext ?_ (Prod.ext ?_ ?_))
    · funext p; pointwise [k0_pay1]; rfl
    · funext p; pointwise [k0_pay2]; rfl
    · funext p; pointwise [k0_pay3]; rfl
    · funext p; pointwise [k0_pay4, pack, c1, stAt]
      simp
  | succ i ih =>
    have h : i < k0_t1_loop.trips := by rw [trips1]; omega
    have hb := innerAt_coe q k v ⟨i, h⟩ 128 le_rfl
    rw [carryAt, dif_pos h, ih (by omega), blockState, trips2, hb]
    rfl

/-- The costs. -/
theorem costOut_coe (y : S16x1x128.Idx) : costOut (F := Ideal) (arr q) (arr k) (arr v) y
    = (((stAt q k v (128 * (y 0).val + (y 2).val)).cost (128 * (y 0).val + (y 2).val) (q (128 * (y 0).val + (y 2).val))
        (k (128 * (y 0).val + (y 2).val)) (v (128 * (y 0).val + (y 2).val)) : ℝ) : EReal) := by
  have hb := innerAt_coe q k v (blkOf y) 128 le_rfl
  have h0 : (y 0).val < 16 := (y 0).isLt
  have h2 : (y 2).val < 128 := (y 2).isLt
  rw [costOut, carryAt_coe q k v _ (by show (y 0).val ≤ 16; omega), blockState, trips2, hb]
  pointwise [k0_pay10]
  rfl

/-- The update flags. -/
theorem flagOut_coe (y : S16x1x128.Idx) : flagOut (F := Ideal) (arr q) (arr k) (arr v) y
    = flag (128 * (y 0).val + (y 2).val) (q (128 * (y 0).val + (y 2).val)) (k (128 * (y 0).val + (y 2).val))
        (v (128 * (y 0).val + (y 2).val)) (stAt q k v (128 * (y 0).val + (y 2).val)) := by
  have hb := innerAt_coe q k v (blkOf y) 128 le_rfl
  have h0 : (y 0).val < 16 := (y 0).isLt
  have h2 : (y 2).val < 128 := (y 2).isLt
  rw [flagOut, carryAt_coe q k v _ (by show (y 0).val ≤ 16; omega), blockState, trips2, hb]
  pointwise [k0_pay11]
  rfl

/-- The map. -/
theorem mapOut_coe : mapOut (F := Ideal) (arr q) (arr k) (arr v) = cm (stAt q k v 2048).J := by
  rw [mapOut, trips1, carryAt_coe q k v 16 le_rfl]; rfl

end Loops

end Cert.KernelIdeal.Lv
-- ==== Proof.Finite.lean ====
/- The precondition in plain words: three arrays of finite values are three lists of real rows. -/
module
public import proofs.«01_k».proof.Defs
public import proofs.«01_k».proof.Proof.KernelValue
public import proofs.«01_k».proof.Proof.Gen.Pre_finite_args

@[expose] public section

noncomputable section

namespace Cert.Lv
open Idealize.ShloMosaic Idealize.ShloMosaic.TcCoe

/-- The word 0x7F800000 is plus infinity. -/
theorem ofBits_inf : Ideal.ofBits .f32 0x7F800000#32 = ⊤ := by
  simp [Ideal.ofBits, Ideal.ieee]

/-- A value whose absolute value is below plus infinity is finite. -/
theorem finite_of_abs {x : EReal} (h : max x (-x) < ⊤) : ((x.toReal : ℝ) : EReal) = x := by
  refine EReal.coe_toReal (fun e => ?_) (fun e => ?_)
  · rw [e] at h; simp at h
  · rw [e] at h; simp at h

/-- Two bits joined by "and" are one exactly when both are. -/
theorem andi_one {a b : BitVec 1} (h : IntOp.andi a b = 1#1) : a = 1#1 ∧ b = 1#1 := by
  revert a b; decide

/-- A bit that is one says its statement holds. -/
theorem bit_one {p : Prop} [Decidable p] (h : BitVec.ofBool (decide p) = 1#1) : p := by
  by_contra hp
  rw [decide_eq_false hp] at h
  exact absurd h (by decide)

/-- The rows of an array of values. -/
def rows (x : FVec Ideal Cert.KernelIdeal.S2048x128 .f32) : ℕ → Row :=
  fun n i => if h : n < 2048 then (x (ValueIdx.ix2 (⟨n, h⟩ : Fin 2048) (i : Fin 128))).toReal else 0

/-- An array with no infinite entry is the array of its rows. -/
theorem arr_rows (x : FVec Ideal Cert.KernelIdeal.S2048x128 .f32) (h : ∀ p, max (x p) (-(x p)) < ⊤) :
    x = Cert.KernelIdeal.Lv.arr (rows x) := by
  funext p
  have hp : (p 0).val < 2048 := (p 0).isLt
  have e : ValueIdx.ix2 (⟨(p 0).val, hp⟩ : Fin 2048) (p 1 : Fin 128) = p := by
    funext a; fin_cases a <;> rfl
  have r : rows x (p 0).val (p 1) = (x p).toReal := (dif_pos hp).trans (congrArg (fun i => (x i).toReal) e)
  exact (finite_of_abs (h p)).symm.trans (congrArg _ r.symm)

/-- Under the precondition no entry of any argument is infinite. -/
theorem finite_entries [Cert.Pre_finite_args.Facts] (x y z : FVec Ideal Cert.Pre_finite_args.S2048x128 .f32)
    (h : Cert.Pre_finite_args.fn (F := Ideal) x y z = fun _ => 1#1) (p : Cert.Pre_finite_args.S2048x128.Idx) :
    max (x p) (-(x p)) < ⊤ ∧ max (y p) (-(y p)) < ⊤ ∧ max (z p) (-(z p)) < ⊤ := by
  have h := congrFun h p
  unfold Cert.Pre_finite_args.fn at h
  pointwise at h
  rw [ofBits_inf] at h
  obtain ⟨h, hz⟩ := andi_one h
  obtain ⟨hx, hy⟩ := andi_one h
  exact ⟨bit_one hx, bit_one hy, bit_one hz⟩

end Cert.Lv
-- ==== Proof.KernelResult.lean ====
/- The three results after the kernel's run, as functions of the three arguments. -/
module
public import proofs.«01_k».proof.Proof.KernelIdealRun
public import Idealize.ShloMosaic.Lib.Claim
public import Idealize.ShloMosaic.Lib.Pipeline.ValueKit
public import Idealize.ShloMosaic.Lib.StableHlo.RunRead

@[expose] public section
set_option maxRecDepth 16384

noncomputable section

namespace Cert.KernelIdeal.Lv
open Idealize.ShloMosaic Idealize.ShloMosaic.TcCoe Idealize.ShloMosaic.Tactic Idealize.ShloMosaic.Pipeline Cert.KernelIdeal.Gen
open Idealize.SL.Sem

variable {F : FTy → Type} [FloatOps F] (m : (ℓ : Loc nD τ sig) → Buf (Elt F) ℓ) (ρ : Dev nD → PrngReg)

/-- The block of queries is the whole argument. -/
theorem iblk_0 (c : Dev nD) : iblk m c 0 t0_0 = m ((c.tc : Thread nD τ).loc main_arg0) := by
  funext y
  unfold iblk
  blk_simp
  rw [V_main_arg0]
  refine congrArg (m ((c.tc : Thread nD τ).loc main_arg0)) (funext fun a => Fin.ext ?_)
  have h0 : win0_0.index t0_0 0 = 0 := by decide +kernel
  have h1 : win0_0.index t0_0 1 = 0 := by decide +kernel
  fin_cases a <;> blk_simp
  · rw [h0]; omega
  · rw [h1]; omega

/-- The block of keys is the whole argument. -/
theorem iblk_1 (c : Dev nD) : iblk m c 1 t0_0 = m ((c.tc : Thread nD τ).loc main_arg1) := by
  funext y
  unfold iblk
  blk_simp
  rw [V_main_arg1]
  refine congrArg (m ((c.tc : Thread nD τ).loc main_arg1)) (funext fun a => Fin.ext ?_)
  have h0 : win0_1.index t0_0 0 = 0 := by decide +kernel
  have h1 : win0_1.index t0_0 1 = 0 := by decide +kernel
  fin_cases a <;> blk_simp
  · rw [h0]; omega
  · rw [h1]; omega

/-- The block of values is the whole argument. -/
theorem iblk_2 (c : Dev nD) : iblk m c 2 t0_0 = m ((c.tc : Thread nD τ).loc main_arg2) := by
  funext y
  unfold iblk
  blk_simp
  rw [V_main_arg2]
  refine congrArg (m ((c.tc : Thread nD τ).loc main_arg2)) (funext fun a => Fin.ext ?_)
  have h0 : win0_2.index t0_0 0 = 0 := by decide +kernel
  have h1 : win0_2.index t0_0 1 = 0 := by decide +kernel
  fin_cases a <;> blk_simp
  · rw [h0]; omega
  · rw [h1]; omega

/-- The costs after the run. -/
theorem final_3 (c : Dev nD) : (dats m 0 c).arrAt 3 cfg0.N = costOut (F := F) (iblk m c 0 t0_0) (iblk m c 1 t0_0) (iblk m c 2 t0_0) := by
  refine (dats m 0 c).arrAt_eq_of_after_last 3 t0_0 (by decide +kernel) _ fun j => ?_
  blk_simp
  rw [after_3]

/-- The update flags after the run. -/
theorem final_4 (c : Dev nD) : (dats m 0 c).arrAt 4 cfg0.N = flagOut (F := F) (iblk m c 0 t0_0) (iblk m c 1 t0_0) (iblk m c 2 t0_0) := by
  refine (dats m 0 c).arrAt_eq_of_after_last 4 t0_0 (by decide +kernel) _ fun j => ?_
  blk_simp
  rw [after_4]

/-- The map after the run. -/
theorem final_5 (c : Dev nD) : (dats m 0 c).arrAt 5 cfg0.N = mapOut (F := F) (iblk m c 0 t0_0) (iblk m c 1 t0_0) (iblk m c 2 t0_0) := by
  refine (dats m 0 c).arrAt_eq_of_after_last 5 t0_0 (by decide +kernel) _ fun j => ?_
  blk_simp
  rw [after_5]

/-- What the lines after the region find in the array of costs. -/
theorem found_3 (c : Dev nD) : withArrays (cfgs 0).spec c (V0 m c) (fun w => (dats m 0 c).arrAt w (cfgs 0).N) (Proc.devRef .tc main_v0_0)
    = (dats m 0 c).arrAt 3 cfg0.N :=
  withArrays_arr spec0 launch0.win.arr_inj c (V0 m c) (fun w => (dats m 0 c).arrAt w cfg0.N) 3

/-- What the lines after the region find in the array of update flags. -/
theorem found_4 (c : Dev nD) : withArrays (cfgs 0).spec c (V0 m c) (fun w => (dats m 0 c).arrAt w (cfgs 0).N) (Proc.devRef .tc main_v0_1)
    = (dats m 0 c).arrAt 4 cfg0.N :=
  withArrays_arr spec0 launch0.win.arr_inj c (V0 m c) (fun w => (dats m 0 c).arrAt w cfg0.N) 4

/-- The first result is the costs in one row. -/
theorem tail_costs (c : Dev nD) : afterTail₀ cfgs (dats m) 0 (V0 m) [hostOps1] c main_v1
    = shapeCast S2048 ((dats m 0 c).arrAt 3 cfg0.N) shapeCasts_S16x1x128_S2048 := by
  unfold afterTail₀
  simp only [List.flatten_cons, List.flatten_nil, List.append_nil, hostOps1]
  after_reads_simp
  rw [found_3]
  rfl

/-- The second result is whether the flags, in one row, differ from zero. -/
theorem tail_flags (c : Dev nD) : afterTail₀ cfgs (dats m) 0 (V0 m) [hostOps1] c main_v4
    = cmpf .une (shapeCast S2048 ((dats m 0 c).arrAt 4 cfg0.N) shapeCasts_S16x1x128_S2048)
        (broadcastInDim S2048 ![] bcast_S_S2048 (constant S_ .f32 0x00000000#32)) := by
  unfold afterTail₀
  simp only [List.flatten_cons, List.flatten_nil, List.append_nil, hostOps1]
  after_reads_simp
  rw [found_4]
  rfl

/-- The three results and the three arguments after the run. -/
theorem results : θ_run defs (onTc (τ := τ) (main (F := F))) ⟨m, fun _ => 0, ρ⟩ (fun r => ∀ c : Dev nD,
      r.2.mem ((c.tc : Thread nD τ).loc main_v1)
        = shapeCast S2048 (costOut (F := F) (m ((c.tc : Thread nD τ).loc main_arg0)) (m ((c.tc : Thread nD τ).loc main_arg1)) (m ((c.tc : Thread nD τ).loc main_arg2))) shapeCasts_S16x1x128_S2048
      ∧ r.2.mem ((c.tc : Thread nD τ).loc main_v4)
        = cmpf .une (shapeCast S2048 (flagOut (F := F) (m ((c.tc : Thread nD τ).loc main_arg0)) (m ((c.tc : Thread nD τ).loc main_arg1)) (m ((c.tc : Thread nD τ).loc main_arg2))) shapeCasts_S16x1x128_S2048)
            (broadcastInDim S2048 ![] bcast_S_S2048 (constant S_ .f32 0x00000000#32))
      ∧ r.2.mem ((c.tc : Thread nD τ).loc main_v0_2)
        = mapOut (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  have h := (θ_run defs _ _).mono (fun _ h => h.1) (run m ρ)
  run_from h
  · rw [tail_costs, final_3, iblk_0, iblk_1, iblk_2]
  · rw [tail_flags, final_4, iblk_0, iblk_1, iblk_2]
  · exact (final_5 m c).trans (by rw [iblk_0, iblk_1, iblk_2])

end Cert.KernelIdeal.Lv
-- ==== Proof.Results.lean ====
/- The kernel's three results on finite arguments, as functions of the real recurrence. -/
module
public import proofs.«01_k».proof.Proof.KernelValue
public import proofs.«01_k».proof.Proof.KernelResult

@[expose] public section
set_option maxRecDepth 16384

noncomputable section

namespace Cert.KernelIdeal.Lv
open Idealize.ShloMosaic Idealize.ShloMosaic.TcCoe Cert.KernelIdeal.Gen Cert.Lv

/-- The place in sixteen blocks of 128 of a place in a row of 2048. -/
def place (p : S2048.Idx) : S16x1x128.Idx :=
  ValueIdx.ix3 (⟨(p 0).val / 128, by have h : (p 0).val < 2048 := (p 0).isLt; omega⟩ : Fin 16) (0 : Fin 1)
    (⟨(p 0).val % 128, Nat.mod_lt _ (by omega)⟩ : Fin 128)

/-- Sixteen blocks of 128 read as one row. -/
theorem row_apply {α : Type} (x : S16x1x128.Idx → α) (p : S2048.Idx) :
    shapeCast S2048 x shapeCasts_S16x1x128_S2048 p = x (place p) := by
  refine shapeCast_apply x _ p (place p) ?_
  rw [Shape.rowMajor_val_three, Shape.rowMajor_val_one]
  show ((p 0).val / 128 * 1 + 0) * 128 + (p 0).val % 128 = (p 0).val
  omega

/-- The number of a place is the number of its observation. -/
theorem place_val (p : S2048.Idx) : 128 * (place p 0).val + (place p 2).val = (p 0).val := by
  show 128 * ((p 0).val / 128) + (p 0).val % 128 = (p 0).val
  omega

variable (q k v : ℕ → Row)

/-- The first result: the 2048 costs. -/
theorem costs : shapeCast S2048 (costOut (F := Ideal) (arr q) (arr k) (arr v)) shapeCasts_S16x1x128_S2048
    = fun p => (((stAt q k v (p 0).val).cost (p 0).val (q (p 0).val) (k (p 0).val) (v (p 0).val) : ℝ) : EReal) := by
  funext p
  rw [row_apply, costOut_coe, place_val]

/-- A stored flag differs from zero exactly when the map changed. -/
theorem flag_ne (n : ℕ) (q k v : Row) (s : St) : BitVec.ofBool (decide (flag n q k v s ≠ 0)) = bit ((s.observe n q v).upd n k v) := by
  refine bit_congr ?_
  unfold flag
  split_ifs with h <;> simp [h]

/-- The second result: the 2048 update flags. -/
theorem flags : cmpf (F := Ideal) .une (shapeCast S2048 (flagOut (F := Ideal) (arr q) (arr k) (arr v)) shapeCasts_S16x1x128_S2048)
      (broadcastInDim S2048 ![] bcast_S_S2048 (constant S_ .f32 0x00000000#32))
    = fun p => bit (((stAt q k v (p 0).val).observe (p 0).val (q (p 0).val) (v (p 0).val)).upd (p 0).val (k (p 0).val) (v (p 0).val)) := by
  have e : shapeCast S2048 (flagOut (F := Ideal) (arr q) (arr k) (arr v)) shapeCasts_S16x1x128_S2048
      = fun p => flag (p 0).val (q (p 0).val) (k (p 0).val) (v (p 0).val) (stAt q k v (p 0).val) := by
    funext p
    rw [row_apply, flagOut_coe, place_val]
  rw [e]
  funext p
  pointwise
  exact flag_ne _ _ _ _ _

end Cert.KernelIdeal.Lv
-- ==== Proof.RefStep.lean ====
/- What one trip of the reference's loop makes of finite values: one observation of the real recurrence. -/
module
public import proofs.«01_k».proof.Proof.Coe
public import proofs.«01_k».proof.Proof.Gen.ReferenceIdeal.Run
public import Idealize.ShloMosaic.Lib.Claim
public import Idealize.ShloMosaic.Lib.WordCmp
public import Idealize.ShloMosaic.Lib.DynamicIndex

@[expose] public section
set_option maxRecDepth 16384

noncomputable section

namespace Cert.ReferenceIdeal.Lv
open Idealize.ShloMosaic Idealize.ShloMosaic.TcCoe Idealize.SL.Sem Idealize.ShloMosaic.StableHlo Cert.Lv
open Cert.ReferenceIdeal Cert.ReferenceIdeal.Gen Cert.ReferenceIdeal.Value

/-- A real matrix as an array of finite values. -/
def cm (M : Mat) : FVec Ideal S128x128 .f32 := fun p => ((M (p 0) (p 1) : ℝ) : EReal)
/-- A real row as an array of finite values. -/
def cr (r : Row) : FVec Ideal S128 .f32 := fun p => ((r (p 0) : ℝ) : EReal)
/-- A real number as an array of rank zero. -/
def c0 (x : ℝ) : FVec Ideal S_ .f32 := fun _ => (x : EReal)
/-- A truth value as a bit array of rank zero. -/
def b0 (p : Prop) [Decidable p] : IVec S_ 1 := fun _ => bit p
/-- A number as a word array of rank zero. -/
def w0 (n : ℕ) : IVec S_ 32 := fun _ => BitVec.ofNat 32 n
/-- A list of real rows as a [2048, 128] array of finite values. -/
def arr (x : ℕ → Row) : FVec Ideal S2048x128 .f32 := fun p => ((x (p 0).val (p 1) : ℝ) : EReal)

/-- A row read off an array. -/
theorem row_read (x : ℕ → Row) (n : ℕ) (hn : n < 2048) (start : Fin S2048x128.rank → Int) (h0 : start 0 = n) (h1 : start 1 = 0)
    (h : S2048x128.Slices (fun _ => 0) S1x128) :
    shapeCast S128 (Host.dynamicSlice S1x128 (arr x) start h) shapeCasts_S1x128_S128 = cr (x n) := by
  have e : Host.clampedStart S2048x128 S1x128 h.1 start 0 = n :=
    Host.clampedStart_of_le h.1 start 0 n h0 (by show n + 1 ≤ 2048; omega)
  have e' : Host.clampedStart S2048x128 S1x128 h.1 start 1 = 0 :=
    Host.clampedStart_of_le h.1 start 1 0 h1 (by show 0 + 128 ≤ 128; omega)
  funext p
  pointwise [arr, cr]
  have hx : (⟨Host.clampedStart S2048x128 S1x128 h.1 start 1 + (p 0).val, by rw [e']; have h : (p 0).val < 128 := (p 0).isLt; omega⟩ : Fin 128) = p 0 :=
    Fin.ext (by show Host.clampedStart S2048x128 S1x128 h.1 start 1 + (p 0).val = _; rw [e']; omega)
  rw [e]
  exact congrArg (fun z : Fin 128 => ((x n z : ℝ) : EReal)) hx

/-- One place of a list written over. -/
theorem put {α : Type} (x : S2048.Idx → α) (u : S_.Idx → α) (n : ℕ) (hn : n < 2048) (start : Fin S2048.rank → Int) (h0 : start 0 = n)
    (h : S2048.Slices (fun _ => 0) S1) (p : S2048.Idx) :
    Host.dynamicUpdateSlice x (broadcastInDim S1 ![] bcast_S_S1 u) start h p = if (p 0).val = n then u (Shape.Idx.first h_S_) else x p := by
  have e : Host.clampedStart S2048 S1 h.1 start 0 = n :=
    Host.clampedStart_of_le h.1 start 0 n h0 (by show n + 1 ≤ 2048; omega)
  rw [Host.dynamicUpdateSlice_apply]
  by_cases hp : (p 0).val = n
  · rw [dif_pos, if_pos hp]
    · exact congrArg u (funext fun a => a.elim0)
    · intro a
      obtain rfl : a = 0 := Subsingleton.elim _ _
      rw [e, hp]
      exact ⟨le_rfl, Nat.lt_succ_self n⟩
  · rw [dif_neg, if_neg hp]
    intro hin
    have := hin 0
    rw [e] at this
    have h2 : (p 0).val < n + 1 := this.2
    omega

/-- A sum over a matrix with all but the diagonal put at zero is the sum over the diagonal. -/
theorem diag_sum (f : Fin 128 → Fin 128 → EReal) :
    ∑ x : Fin 128, ∑ y : Fin 128, Scalar.select (IntOp.cmpi .eq (BitVec.ofNat 32 x.val) (BitVec.ofNat 32 y.val)) (f x y) 0 = ∑ x, f x x := by
  refine Finset.sum_congr rfl fun x _ => ?_
  rw [Finset.sum_eq_single x]
  · rw [cmpi_eq_ofNat (by omega) (by omega), select_bit, if_pos rfl]
  · intro y _ hy
    rw [cmpi_eq_ofNat (by omega) (by omega), select_bit, if_neg fun h => hy (Fin.ext h.symm)]
  · exact fun h => absurd (Finset.mem_univ x) h

/-- A choice of one over a finite value, made on the first observation or on zero, is the safe divisor. -/
theorem select_safe (n : ℕ) (x : ℝ) :
    Scalar.select (IntOp.ori (bit (n = 0)) (BitVec.ofBool (decide ((x : EReal) = 0)))) (1 : EReal) (x : EReal) = ((safe n x : ℝ) : EReal) := by
  change Scalar.select (IntOp.ori (bit (n = 0)) (bit ((x : EReal) = 0))) _ _ = _
  rw [or_bit, select_bit, safe]
  simp only [coe_eq_zero']
  split_ifs <;> simp

/-- One place of a running mean, as the loop computes it. -/
theorem mix_coe (n : ℕ) (x y z : ℝ) :
    Ideal.div ((((n : ℝ) + 1 : ℝ) : EReal) - 1) (((n : ℝ) + 1 : ℝ) : EReal) * (x : EReal)
        + Ideal.div ((y : EReal) * (z : EReal)) (((n : ℝ) + 1 : ℝ) : EReal)
      = (((((n : ℝ) + 1) - 1) / ((n : ℝ) + 1) * x + y * z / ((n : ℝ) + 1) : ℝ) : EReal) := by
  rw [← EReal.coe_one, ← EReal.coe_sub, coe_div (count_ne_zero n), ← EReal.coe_mul, ← EReal.coe_mul, coe_div (count_ne_zero n),
    ← EReal.coe_add]

/-- The new map's entry by the two choices of the loop, out of five numbers and two entries. -/
theorem newJ_coe (n : ℕ) (a b c d e x y : ℝ) :
    Scalar.select (bit (n = 0)) (y : EReal)
      (Scalar.select (bit (0 < margin n a b c d))
        ((if ((freeI n a b c d e : ℝ) : EReal) ≤ 0 then Ideal.div (a : EReal) ((safe n c : ℝ) : EReal)
            else if ((freeF n a b c d e : ℝ) : EReal) ≤ 0 then 0 else ((freeF n a b c d e : ℝ) : EReal)) * (x : EReal)
          + (if ((freeI n a b c d e : ℝ) : EReal) ≤ 0 then 0
            else if ((freeF n a b c d e : ℝ) : EReal) ≤ 0 then
              Ideal.div (b : EReal) (Scalar.select (IntOp.ori (bit (n = 0)) (BitVec.ofBool (decide ((e : EReal) = 0)))) (1 : EReal) (e : EReal))
            else ((freeI n a b c d e : ℝ) : EReal)) * (y : EReal))
        (x : EReal))
      = ((if n = 0 then y else if 0 < margin n a b c d then stepF n a b c d e * x + stepI n a b c d e * y else x : ℝ) : EReal) := by
  rw [select_safe, coe_div (safe_ne_zero _ _), coe_div (safe_ne_zero _ _), select_bit, select_bit, stepF, stepI]
  simp only [EReal.coe_nonpos]
  split_ifs <;> simp

/-- A product of two matrices. -/
theorem dot_cm (A B : Mat) :
    Host.dotGeneral dot_S128x128_S128x128_S128x128_1_0_0_1_n_n none (cm A) (cm B) = cm (fun i j => ∑ l, A i l * B l j) := by
  funext p
  pointwise [cm]
  simp only [← EReal.coe_mul, coe_sum]

/-- A transposed matrix. -/
theorem transpose_cm (A : Mat) :
    transpose S128x128 [1, 0] (cm A) transposes_S128x128_S128x128_1_0 = cm (fun i j => A j i) := by
  funext p
  pointwise [cm]

/-- A trace: the sum of a matrix with all but its diagonal put at zero. -/
theorem trace_cm (A : Mat) :
    Host.reduceAdd (select (cmpi .eq (iotaInDim S128x128 32 0) (iotaInDim S128x128 32 1)) (cm A) (broadcastInDim S128x128 ![] bcast_S_S128x128 (constant S_ .f32 0x00000000#32))) (constant S_ .f32 0x00000000#32) reducesTo_S128x128_S_d0_1 h_S_
      = c0 (∑ i, A i i) := by
  funext p
  pointwise [cm, c0]
  refine (diag_sum fun x y => ((A x y : ℝ) : EReal)).trans ?_
  simp only [coe_sum]

/-- Half a number less a second plus half a third. -/
theorem halves (a b c : ℝ) :
    addf (subf (mulf (constant S_ .f32 0x3F000000#32) (c0 a)) (c0 b)) (mulf (constant S_ .f32 0x3F000000#32) (c0 c))
      = c0 (1 / 2 * a - b + 1 / 2 * c) := by
  funext p
  pointwise [c0]
  rw [ofBits_half, ← EReal.coe_mul, ← EReal.coe_mul, ← EReal.coe_sub, ← EReal.coe_add]

/-- The cost of a map under given moments, as the loop computes it. -/
theorem costOf_coe (s : St) (J : Mat) :
    addf (subf (mulf (constant S_ .f32 0x3F000000#32) (Host.reduceAdd (select (cmpi .eq (iotaInDim S128x128 32 0) (iotaInDim S128x128 32 1)) (cm s.vv) (broadcastInDim S128x128 ![] bcast_S_S128x128 (constant S_ .f32 0x00000000#32))) (constant S_ .f32 0x00000000#32) reducesTo_S128x128_S_d0_1 h_S_))
        (Host.reduceAdd (select (cmpi .eq (iotaInDim S128x128 32 0) (iotaInDim S128x128 32 1)) (Host.dotGeneral dot_S128x128_S128x128_S128x128_1_0_0_1_n_n none (cm J) (cm s.qv)) (broadcastInDim S128x128 ![] bcast_S_S128x128 (constant S_ .f32 0x00000000#32))) (constant S_ .f32 0x00000000#32) reducesTo_S128x128_S_d0_1 h_S_))
      (mulf (constant S_ .f32 0x3F000000#32) (Host.reduceAdd (select (cmpi .eq (iotaInDim S128x128 32 0) (iotaInDim S128x128 32 1)) (Host.dotGeneral dot_S128x128_S128x128_S128x128_1_0_0_1_n_n none (Host.dotGeneral dot_S128x128_S128x128_S128x128_1_0_0_1_n_n none (cm J) (cm s.qq)) (transpose S128x128 [1, 0] (cm J) transposes_S128x128_S128x128_1_0)) (broadcastInDim S128x128 ![] bcast_S_S128x128 (constant S_ .f32 0x00000000#32))) (constant S_ .f32 0x00000000#32) reducesTo_S128x128_S_d0_1 h_S_))
      = c0 (s.costOf J) := by
  rw [transpose_cm, dot_cm, dot_cm, dot_cm, trace_cm, trace_cm, trace_cm, halves, St.costOf, tr2, quad]

/-- What the loop's buffers hold before observation `n`, the state `s` carried. -/
structure Holds (q k v : ℕ → Row) (n : ℕ) (s : St) (V0 : Valuation τ sig (Elt Ideal)) : Prop where
  /-- The queries are in place. -/
  hq : V0 (Proc.devRef .tc main_v6_0) = arr q
  /-- The keys are in place. -/
  hk : V0 (Proc.devRef .tc main_v6_1) = arr k
  /-- The values are in place. -/
  hv : V0 (Proc.devRef .tc main_v6_2) = arr v
  /-- The loop's index is `n`. -/
  hi : V0 (Proc.devRef .tc main_v6_3) = w0 n
  /-- The map. -/
  hJ : V0 (Proc.devRef .tc main_v6_4) = cm s.J
  /-- The values' second moments. -/
  hvv : V0 (Proc.devRef .tc main_v6_5) = cm s.vv
  /-- The queries' and values' second moments. -/
  hqv : V0 (Proc.devRef .tc main_v6_6) = cm s.qv
  /-- The queries' second moments. -/
  hqq : V0 (Proc.devRef .tc main_v6_7) = cm s.qq
  /-- The count of observations so far is `n`. -/
  hn : V0 (Proc.devRef .tc main_v6_8) = w0 n

section Numbers

variable (q k v : ℕ → Row) (n : ℕ) (s : St)

/-- The old map against the new moments of queries and values. -/
abbrev sJ : ℝ := tr2 (s.observe n (q n) (v n)).J (s.observe n (q n) (v n)).qv
/-- The outer product against the new moments of queries and values. -/
abbrev sl : ℝ := tr2 (outer (v n) (k n)) (s.observe n (q n) (v n)).qv
/-- The old map's quadratic form under the queries' new moments. -/
abbrev aJJ : ℝ := quad (s.observe n (q n) (v n)).qq (s.observe n (q n) (v n)).J (s.observe n (q n) (v n)).J
/-- The mixed form under the queries' new moments. -/
abbrev aJl : ℝ := quad (s.observe n (q n) (v n)).qq (s.observe n (q n) (v n)).J (outer (v n) (k n))
/-- The outer product's quadratic form under the queries' new moments. -/
abbrev all : ℝ := quad (s.observe n (q n) (v n)).qq (outer (v n) (k n)) (outer (v n) (k n))

end Numbers

section Step

variable {q k v : ℕ → Row} {n : ℕ} {s : St} {V0 : Valuation τ sig (Elt Ideal)} (H : Holds q k v n s V0) (hn : n < 2048)
include H hn

/-- The observation's query row. -/
theorem v7_coe : res_main_while0b_v7 V0 = cr (q n) := by
  unfold res_main_while0b_v7
  rw [H.hq, H.hi]
  exact row_read q n hn _ (toInt_ofNat_of_lt (by omega)) rfl _
/-- The observation's key row. -/
theorem v8_coe : res_main_while0b_v8 V0 = cr (k n) := by
  unfold res_main_while0b_v8
  rw [H.hk, H.hi]
  exact row_read k n hn _ (toInt_ofNat_of_lt (by omega)) rfl _
/-- The observation's value row. -/
theorem v9_coe : res_main_while0b_v9 V0 = cr (v n) := by
  unfold res_main_while0b_v9
  rw [H.hv, H.hi]
  exact row_read v n hn _ (toInt_ofNat_of_lt (by omega)) rfl _

omit hn in
/-- The observation's number, from one. -/
theorem v10_coe : res_main_while0b_v10 V0 = w0 (n + 1) := by
  funext p
  pointwise [res_main_while0b_v10, H.hn, w0]
  exact (BitVec.ofNat_add n 1).symm
/-- The count of observations so far. -/
theorem v11_coe : res_main_while0b_v11 V0 = c0 ((n : ℝ) + 1) := by
  funext p
  pointwise [res_main_while0b_v11, v10_coe H, w0, c0]
  have e : (BitVec.ofNat 32 (n + 1)).toInt = ((n + 1 : ℕ) : ℤ) := toInt_ofNat_of_lt (by omega)
  change (((BitVec.ofNat 32 (n + 1)).toInt : ℝ) : EReal) = _
  rw [e]; push_cast; rfl

/-- Whether the observation is the first. -/
theorem v48_coe : res_main_while0b_v48 V0 = b0 (n = 0) := by
  funext p
  pointwise [res_main_while0b_v48, v10_coe H, w0, b0]
  exact (cmpi_eq_ofNat (m := n + 1) (n := 1) (by omega) (by omega)).trans (bit_congr (by omega))

/-- The values' second moments. -/
theorem v23_coe : res_main_while0b_v23 V0 = cm (s.observe n (q n) (v n)).vv := by
  funext p
  pointwise [res_main_while0b_v23, v11_coe H hn, v9_coe H hn, H.hvv, cm, cr, c0]
  exact mix_coe _ _ _ _

/-- The queries' and values' second moments. -/
theorem v35_coe : res_main_while0b_v35 V0 = cm (s.observe n (q n) (v n)).qv := by
  funext p
  pointwise [res_main_while0b_v35, v11_coe H hn, v7_coe H hn, v9_coe H hn, H.hqv, cm, cr, c0]
  exact mix_coe _ _ _ _

/-- The queries' second moments. -/
theorem v47_coe : res_main_while0b_v47 V0 = cm (s.observe n (q n) (v n)).qq := by
  funext p
  pointwise [res_main_while0b_v47, v11_coe H hn, v7_coe H hn, H.hqq, cm, cr, c0]
  exact mix_coe _ _ _ _

/-- The old map against the queries' and values' moments. -/
theorem v55_coe : res_main_while0b_v55 V0 = c0 (sJ q v n s) := by
  funext p
  pointwise [res_main_while0b_v55, v35_coe H hn, H.hJ, cm, c0]
  rw [diag_sum]
  simp only [← EReal.coe_mul, coe_sum]; rfl

/-- The outer product against the queries' and values' moments. -/
theorem v58_coe : res_main_while0b_v58 V0 = c0 (sl q k v n s) := by
  funext p
  pointwise [res_main_while0b_v58, v35_coe H hn, v8_coe H hn, v9_coe H hn, cm, cr, c0]
  simp only [← EReal.coe_mul, coe_sum, tr2_outer]

/-- The old map's quadratic form. -/
theorem v67_coe : res_main_while0b_v67 V0 = c0 (aJJ q v n s) := by
  funext p
  pointwise [res_main_while0b_v67, v47_coe H hn, H.hJ, cm, c0]
  rw [diag_sum]
  simp only [← EReal.coe_mul, coe_sum]; rfl

/-- The outer product's quadratic form. -/
theorem v73_coe : res_main_while0b_v73 V0 = c0 (all q k v n s) := by
  funext p
  pointwise [res_main_while0b_v73, v47_coe H hn, v8_coe H hn, v9_coe H hn, cm, cr, c0]
  simp only [← EReal.coe_mul, coe_sum, quad_outer]

/-- The mixed form of the old map and the outer product. -/
theorem v77_coe : res_main_while0b_v77 V0 = c0 (aJl q k v n s) := by
  funext p
  pointwise [res_main_while0b_v77, v47_coe H hn, v8_coe H hn, v9_coe H hn, H.hJ, cm, cr, c0]
  simp only [← EReal.coe_mul, coe_sum, quad_outer_right]; rfl

/-- The old map's quadratic form, made safe to divide by. -/
theorem v80_coe : res_main_while0b_v80 V0 = c0 (safe n (aJJ q v n s)) := by
  funext p
  pointwise [res_main_while0b_v80, v48_coe H hn, v67_coe H hn, c0, b0, id_eq]
  exact select_safe _ _

/-- The determinant of the two-weight problem. -/
theorem v86_coe : res_main_while0b_v86 V0
    = c0 (aJJ q v n s * all q k v n s - aJl q k v n s * aJl q k v n s) := by
  funext p
  pointwise [res_main_while0b_v86, v67_coe H hn, v73_coe H hn, v77_coe H hn, c0]
  simp only [← EReal.coe_mul, ← EReal.coe_sub]

/-- The determinant, made safe to divide by. -/
theorem v89_coe : res_main_while0b_v89 V0
    = c0 (safe n (aJJ q v n s * all q k v n s - aJl q k v n s * aJl q k v n s)) := by
  funext p
  pointwise [res_main_while0b_v89, v48_coe H hn, v86_coe H hn, c0, b0, id_eq]
  exact select_safe _ _

/-- The old map's unconstrained weight. -/
theorem v96_coe : res_main_while0b_v96 V0
    = c0 (freeF n (sJ q v n s) (sl q k v n s) (aJJ q v n s) (aJl q k v n s) (all q k v n s)) := by
  funext p
  pointwise [res_main_while0b_v96, v89_coe H hn, v73_coe H hn, v55_coe H hn, v77_coe H hn, v58_coe H hn, c0]
  rw [← EReal.coe_mul, ← EReal.coe_mul, ← EReal.coe_sub, coe_div (safe_ne_zero _ _)]; rfl

/-- The outer product's unconstrained weight. -/
theorem v100_coe : res_main_while0b_v100 V0
    = c0 (freeI n (sJ q v n s) (sl q k v n s) (aJJ q v n s) (aJl q k v n s) (all q k v n s)) := by
  funext p
  pointwise [res_main_while0b_v100, v89_coe H hn, v67_coe H hn, v55_coe H hn, v77_coe H hn, v58_coe H hn, c0]
  rw [← EReal.coe_mul, ← EReal.coe_mul, ← EReal.coe_sub, coe_div (safe_ne_zero _ _)]; rfl

/-- Whether the observation leaves anything over. -/
theorem v111_coe : res_main_while0b_v111 V0
    = b0 (0 < margin n (sJ q v n s) (sl q k v n s) (aJJ q v n s) (aJl q k v n s)) := by
  funext p
  pointwise [res_main_while0b_v111, v80_coe H hn, v55_coe H hn, v77_coe H hn, v58_coe H hn, c0, b0]
  rw [coe_div (safe_ne_zero _ _), ← EReal.coe_mul, ← EReal.coe_sub]
  exact bit_congr EReal.coe_pos

/-- The outer product. -/
theorem v116_coe : res_main_while0b_v116 V0 = cm (outer (v n) (k n)) := by
  funext p
  pointwise [res_main_while0b_v116, v8_coe H hn, v9_coe H hn, cm, cr]
  rw [← EReal.coe_mul]; rfl

/-- The new map. -/
theorem v123_coe : res_main_while0b_v123 V0 = cm ((s.observe n (q n) (v n)).newJ n (k n) (v n)) := by
  funext p
  pointwise [res_main_while0b_v123, v48_coe H hn, v111_coe H hn, v116_coe H hn, v100_coe H hn, v96_coe H hn, v55_coe H hn,
    v58_coe H hn, v80_coe H hn, v73_coe H hn, H.hJ, cm, c0, b0, id_eq]
  exact (newJ_coe _ _ _ _ _ _ _ _).trans (congrArg _ (newJ_cases n (k n) (v n) (s.observe n (q n) (v n)) (p 0) (p 1)).symm)

/-- The costs with this observation's written in. -/
theorem step9_coe (p : S2048.Idx) : step_main_v6_9 V0 p
    = if (p 0).val = n then ((s.cost n (q n) (k n) (v n) : ℝ) : EReal) else V0 (Proc.devRef .tc main_v6_9) p := by
  unfold step_main_v6_9
  rw [H.hi, v123_coe H hn, v35_coe H hn, v47_coe H hn, v23_coe H hn]
  rw [costOf_coe]
  exact put _ (c0 _) n hn _ (toInt_ofNat_of_lt (by omega)) _ p

/-- The update flags with this observation's written in. -/
theorem step10_coe (p : S2048.Idx) : step_main_v6_10 V0 p
    = if (p 0).val = n then bit ((s.observe n (q n) (v n)).upd n (k n) (v n)) else V0 (Proc.devRef .tc main_v6_10) p := by
  unfold step_main_v6_10
  rw [H.hi, v48_coe H hn, v111_coe H hn]
  refine (put _ _ n hn _ (toInt_ofNat_of_lt (by omega)) _ p).trans ?_
  exact if_congr Iff.rfl (or_bit _ _) rfl

end Step

end Cert.ReferenceIdeal.Lv
-- ==== Proof.RefValue.lean ====
/- The three results of the reference's loop on finite arguments, as functions of the real recurrence. -/
module
public import proofs.«01_k».proof.Proof.RefStep
public import Idealize.ShloMosaic.Lib.StableHlo.RunRead

@[expose] public section
set_option maxRecDepth 65536
set_option maxHeartbeats 800000

noncomputable section

namespace Cert.ReferenceIdeal.Lv
open Idealize.ShloMosaic Idealize.ShloMosaic.TcCoe Idealize.SL.Sem Idealize.ShloMosaic.StableHlo Cert.Lv
open Cert.ReferenceIdeal Cert.ReferenceIdeal.Gen Cert.ReferenceIdeal.Value

/-- A square of zeros. -/
theorem zeros_cm : broadcastInDim S128x128 ![] bcast_S_S128x128 (constant (F := Ideal) S_ .f32 0x00000000#32) = cm (fun _ _ => 0) := by
  funext p
  pointwise [cm]
  exact EReal.coe_zero.symm

/-- After one more trip the buffers hold the next state. -/
theorem Holds.step {q k v : ℕ → Row} {n : ℕ} {s : St} {V0 : Valuation τ sig (Elt Ideal)} (H : Holds q k v n s V0) (hn : n < 2048) :
    Holds q k v (n + 1) (s.next n (q n) (k n) (v n)) (STEP V0) where
  hq := (STEP_main_v6_0 V0).trans H.hq
  hk := (STEP_main_v6_1 V0).trans H.hk
  hv := (STEP_main_v6_2 V0).trans H.hv
  hi := by
    rw [STEP_main_v6_3]
    funext p
    pointwise [step_main_v6_3, H.hi, w0, id_eq]
    exact (BitVec.ofNat_add n 1).symm
  hJ := by rw [STEP_main_v6_4, step_main_v6_4, id_eq, v123_coe H hn]; rfl
  hvv := by rw [STEP_main_v6_5, step_main_v6_5, id_eq, v23_coe H hn]; rfl
  hqv := by rw [STEP_main_v6_6, step_main_v6_6, id_eq, v35_coe H hn]; rfl
  hqq := by rw [STEP_main_v6_7, step_main_v6_7, id_eq, v47_coe H hn]; rfl
  hn := by rw [STEP_main_v6_8, step_main_v6_8, id_eq, v10_coe H]

section Run

variable (m : (ℓ : Loc nD τ sig) → Buf (Elt Ideal) ℓ) (c : Dev nD) {q k v : ℕ → Row}
  (hq : m ((c.tc : Thread nD τ).loc main_arg0) = arr q) (hk : m ((c.tc : Thread nD τ).loc main_arg1) = arr k)
  (hv : m ((c.tc : Thread nD τ).loc main_arg2) = arr v)
include hq hk hv

/-- Before the first trip the buffers hold the arguments and zeros. -/
theorem holds_entry : Holds q k v 0 (stAt q k v 0) (entryContents preI m c) := by
  constructor <;> (simp only [entryContents, afterL_cons, afterL_nil]; after_reads_simp)
  · exact hq
  · exact hk
  · exact hv
  · rfl
  · exact zeros_cm
  · exact zeros_cm
  · exact zeros_cm
  · exact zeros_cm
  · rfl

/-- Before trip `n` the buffers hold the state after the first `n` observations. -/
theorem holds_at (n : ℕ) (hn : n ≤ 2048) : Holds q k v n (stAt q k v n) (STEP^[n] (entryContents preI m c)) := by
  induction n with
  | zero => exact holds_entry m c hq hk hv
  | succ n ih =>
    rw [Function.iterate_succ_apply']
    exact (ih (by omega)).step (by omega)

/-- Before trip `n` the first `n` places of the list of costs are the first `n` costs. -/
theorem costs_at (n : ℕ) (hn : n ≤ 2048) (p : S2048.Idx) (hp : (p 0).val < n) :
    (STEP^[n] (entryContents preI m c)) (Proc.devRef .tc main_v6_9) p
      = (((stAt q k v (p 0).val).cost (p 0).val (q (p 0).val) (k (p 0).val) (v (p 0).val) : ℝ) : EReal) := by
  induction n with
  | zero => exact absurd hp (Nat.not_lt_zero _)
  | succ n ih =>
    rw [Function.iterate_succ_apply', STEP_main_v6_9, step9_coe (holds_at m c hq hk hv n (by omega)) (by omega) p]
    by_cases h : (p 0).val = n
    · rw [if_pos h, h]
    · rw [if_neg h]
      exact ih (by omega) (by omega)

/-- Before trip `n` the first `n` places of the list of flags say whether the map changed at the first `n` observations. -/
theorem flags_at (n : ℕ) (hn : n ≤ 2048) (p : S2048.Idx) (hp : (p 0).val < n) :
    (STEP^[n] (entryContents preI m c)) (Proc.devRef .tc main_v6_10) p
      = bit (((stAt q k v (p 0).val).observe (p 0).val (q (p 0).val) (v (p 0).val)).upd (p 0).val (k (p 0).val) (v (p 0).val)) := by
  induction n with
  | zero => exact absurd hp (Nat.not_lt_zero _)
  | succ n ih =>
    rw [Function.iterate_succ_apply', STEP_main_v6_10, step10_coe (holds_at m c hq hk hv n (by omega)) (by omega) p]
    by_cases h : (p 0).val = n
    · rw [if_pos h, h]
    · rw [if_neg h]
      exact ih (by omega) (by omega)

/-- The first result: the 2048 costs. -/
theorem costs : (STEP^[2048] (entryContents preI m c)) (Proc.devRef .tc main_v6_9)
    = fun p => (((stAt q k v (p 0).val).cost (p 0).val (q (p 0).val) (k (p 0).val) (v (p 0).val) : ℝ) : EReal) :=
  funext fun p => costs_at m c hq hk hv 2048 le_rfl p (p 0).isLt

/-- The second result: the 2048 update flags. -/
theorem flags : (STEP^[2048] (entryContents preI m c)) (Proc.devRef .tc main_v6_10)
    = fun p => bit (((stAt q k v (p 0).val).observe (p 0).val (q (p 0).val) (v (p 0).val)).upd (p 0).val (k (p 0).val) (v (p 0).val)) :=
  funext fun p => flags_at m c hq hk hv 2048 le_rfl p (p 0).isLt

/-- The third result: the last map. -/
theorem map : (STEP^[2048] (entryContents preI m c)) (Proc.devRef .tc main_v6_4) = cm (stAt q k v 2048).J :=
  (holds_at m c hq hk hv 2048 le_rfl).hJ

end Run

end Cert.ReferenceIdeal.Lv
-- ==== Proof.Algebraic.lean ====
/- The kernel and the reference end with equal results on finite arguments. -/
module
public import proofs.«01_k».proof.Proof.Finite
public import proofs.«01_k».proof.Proof.Results
public import proofs.«01_k».proof.Proof.RefValue
public import Idealize.ShloMosaic.Lib.Quiescent

@[expose] public section

noncomputable section

namespace Cert.Proof
open Idealize.ShloMosaic Idealize.ShloMosaic.TcCoe Idealize.SL.Sem Cert.Lv

/-- The reference terminates from any memory with its arguments unchanged and every counter at zero. -/
theorem frame_r (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2.2.2, sem_eq_zero_of_no_sems (by decide) r.2⟩)
    (Cert.ReferenceIdeal.Value.run m g)

/-- On finite arguments the kernel's three results are the reference's. -/
theorem algebraic : Cert.algebraic_KernelIdeal_ReferenceIdeal_pre_finite_args (hKernelIdeal := Cert.KernelIdeal.Gen.facts)
    (hReferenceIdeal := Cert.ReferenceIdeal.Gen.facts) (hPre_finite_args := Cert.Pre_finite_args.Gen.facts) := by
  intro m g m' g' hpre hargs
  have fin := fun c => finite_entries _ _ _ (hpre c)
  refine ⟨_, _, _, Cert.KernelIdeal.Lv.results m g, ?_⟩
  refine (θ_run Cert.ReferenceIdeal.defs _ _).mono (fun r h c => ?_) (Cert.ReferenceIdeal.Value.run m' g')
  obtain ⟨q, e0⟩ : ∃ q, m ((c.tc : Thread Cert.KernelIdeal.nD Cert.KernelIdeal.τ).loc Cert.KernelIdeal.main_arg0) = Cert.KernelIdeal.Lv.arr q :=
    ⟨_, arr_rows _ fun p => (fin c p).1⟩
  obtain ⟨k, e1⟩ : ∃ k, m ((c.tc : Thread Cert.KernelIdeal.nD Cert.KernelIdeal.τ).loc Cert.KernelIdeal.main_arg1) = Cert.KernelIdeal.Lv.arr k :=
    ⟨_, arr_rows _ fun p => (fin c p).2.1⟩
  obtain ⟨v, e2⟩ : ∃ v, m ((c.tc : Thread Cert.KernelIdeal.nD Cert.KernelIdeal.τ).loc Cert.KernelIdeal.main_arg2) = Cert.KernelIdeal.Lv.arr v :=
    ⟨_, arr_rows _ fun p => (fin c p).2.2⟩
  have a0 := (hargs c).1.trans e0
  have a1 := (hargs c).2.1.trans e1
  have a2 := (hargs c).2.2.trans e2
  refine ⟨(h c).1.trans ?_, (h c).2.1.trans ?_, (h c).2.2.1.trans ?_, (h c).2.2.2⟩
  · refine (Cert.ReferenceIdeal.Lv.costs m' c a0 a1 a2).trans ?_
    rw [e0, e1, e2]
    exact (Cert.KernelIdeal.Lv.costs q k v).symm
  · refine (Cert.ReferenceIdeal.Lv.flags m' c a0 a1 a2).trans ?_
    rw [e0, e1, e2]
    exact (Cert.KernelIdeal.Lv.flags q k v).symm
  · refine (Cert.ReferenceIdeal.Lv.map m' c a0 a1 a2).trans ?_
    rw [e0, e1, e2]
    exact (Cert.KernelIdeal.Lv.mapOut_coe q k v).symm

end Cert.Proof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_args
public import proofs.«01_k».proof.Proof.KernelRun
public import proofs.«01_k».proof.Proof.KernelIdealRun
public import proofs.«01_k».proof.Proof.Algebraic

@[expose] public section

noncomputable section

namespace Cert.Proof

/-- Every claim made: the frames of the kernel, of the kernel over the extended reals and of the reference; that the kernel's
    own text is kept; and that on finite arguments the kernel and the reference have equal results. -/
theorem claim : Cert.Claim :=
  ⟨Cert.Kernel.Gen.facts, Cert.KernelIdeal.Gen.facts, Cert.ReferenceIdeal.Gen.facts, Cert.Pre_finite_args.Gen.facts,
    fun m g _ => Cert.Kernel.Lv.frame m g, fun m g _ => Cert.KernelIdeal.Lv.frame m g, fun m g _ => Cert.KernelIdeal.Lv.frame m g,
    fun m g _ => frame_r m g, fun m g _ => frame_r m g, trivial, algebraic⟩

end Cert.Proof
